-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S65536x128x1 : Shape := ⟨3, ![65536, 128, 1]⟩
abbrev S_ : Shape := ⟨0, ![]⟩

class Facts : Prop where
  bcast_S_S65536x128x1 : S_.BroadcastsInDim S65536x128x1 (![] : Fin 0 → Fin S65536x128x1.rank)
  reducesTo_S65536x128x1_S_d0_1_2 : S65536x128x1.ReducesTo [0, 1, 2] S_
  h_S_ : 0 < S_.numel

variable [Facts]

def fn {F : FTy → Type} [FloatOps F] (main_arg0 : FVec F S65536x128x1 .f32) (main_arg1 : FVec F S65536x128x1 .f32) (main_arg2 : FVec F S65536x128x1 .f32) : IVec S_ 1 :=
  let main_v0 : FVec F S65536x128x1 .f32 := Host.absf main_arg0
  let main_cst : FVec F S_ .f32 := constant S_ .f32 0x7F800000#32
  let main_v1 : FVec F S65536x128x1 .f32 := broadcastInDim S65536x128x1 ![] bcast_S_S65536x128x1 main_cst
  let main_v2 : IVec S65536x128x1 1 := cmpf .olt main_v0 main_v1
  let main_c : IVec S_ 1 := constantI S_ 1 1#1
  let main_v3 : IVec S_ 1 := (fun x v => Host.reduce IntOp.andi x v reducesTo_S65536x128x1_S_d0_1_2 h_S_) main_v2 main_c
  main_v3
-- ==== Kernel.lean ====
abbrev S65536x128x1 : Shape := ⟨3, ![65536, 128, 1]⟩
abbrev S65536x128 : Shape := ⟨2, ![65536, 128]⟩
abbrev S65536 : Shape := ⟨1, ![65536]⟩
abbrev S4096x128 : Shape := ⟨2, ![4096, 128]⟩
abbrev S8192 : Shape := ⟨1, ![8192]⟩
abbrev S128x128 : Shape := ⟨2, ![128, 128]⟩
abbrev S128x4096 : Shape := ⟨2, ![128, 4096]⟩
abbrev S4096 : Shape := ⟨1, ![4096]⟩
abbrev S1x8192 : Shape := ⟨2, ![1, 8192]⟩
abbrev S32x16x128 : Shape := ⟨3, ![32, 16, 128]⟩
abbrev S8388608 : Shape := ⟨1, ![8388608]⟩
abbrev S16x128 : Shape := ⟨2, ![16, 128]⟩
abbrev S2048 : Shape := ⟨1, ![2048]⟩
abbrev S_ : Shape := ⟨0, ![]⟩
abbrev S1x16x128 : Shape := ⟨3, ![1, 16, 128]⟩
abbrev S128 : Shape := ⟨1, ![128]⟩
abbrev S1x128 : Shape := ⟨2, ![1, 128]⟩
abbrev S16 : Shape := ⟨1, ![16]⟩
abbrev S65536x1 : Shape := ⟨2, ![65536, 1]⟩

abbrev nBuf : Table → Nat
  | .hbm => 10
  | .local .tc .vmem => 6
  | .local .scVector .vmem => 3
  | _ => 0

abbrev bufTy : (tb : Table) → Fin (nBuf tb) → BufTy
  | .hbm, ⟨0, _⟩ => ⟨S65536x128x1, .f32⟩
  | .hbm, ⟨1, _⟩ => ⟨S65536x128x1, .f32⟩
  | .hbm, ⟨2, _⟩ => ⟨S65536x128x1, .f32⟩
  | .hbm, ⟨3, _⟩ => ⟨S65536x128, .f32⟩
  | .hbm, ⟨4, _⟩ => ⟨S65536, .i32⟩
  | .hbm, ⟨5, _⟩ => ⟨S32x16x128, .i32⟩
  | .hbm, ⟨6, _⟩ => ⟨S8388608, .f32⟩
  | .hbm, ⟨7, _⟩ => ⟨S8388608, .f32⟩
  | .hbm, ⟨8, _⟩ => ⟨S65536, .f32⟩
  | .hbm, ⟨9, _⟩ => ⟨S65536x1, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S8192, .i32⟩
  | .local .tc .vmem, ⟨5, _⟩ => ⟨S8192, .i32⟩
  | .local .scVector .vmem, ⟨0, _⟩ => ⟨S16x128, .i32⟩
  | .local .scVector .vmem, ⟨1, _⟩ => ⟨S2048, .f32⟩
  | .local .scVector .vmem, ⟨2, _⟩ => ⟨S2048, .f32⟩
  | _, _ => ⟨S65536x128x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev main_v5_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r0 : BitVec 32 := 0#32
  let c0_i32_12_r0 : BitVec 32 := 0#32
  ![v1.toNat, 0, 0]
@[reducible] def k1_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg11 : BitVec 32 := Scf.iv c0_i32_0 c1_i32 k1_t1
  let c128_i32 : BitVec 32 := 128#32
  let v6 : BitVec 32 := Scalar.muli arg11 c128_i32
  ![v6.toNat]
def k1_off3 (k1_t1 : Fin k1_t1_loop.trips) : Fin 2 → Nat :=
  let c0_i32_0 : BitVec 32 := 0#32
  let c1_i32 : BitVec 32 := 1#32
  let arg11 : BitVec 32 := Scf.iv c0_i32_0 c1_i32 k1_t1
  let c0_i32_11 : BitVec 32 := 0#32
  ![arg11.toNat, 0]
@[reducible] def k1_t2_loop : Scf.Loop 32 :=
  let c0_i32_3 : BitVec 32 := 0#32
  let c16_i32_4 : BitVec 32 := 16#32
  let v4 : BitVec 32 := Scalar.addi c0_i32_3 c16_i32_4
  let c1_i32_5 : BitVec 32 := 1#32
  ⟨c0_i32_3, v4, c1_i32_5⟩
def k1_off4 (k1_t2 : Fin k1_t2_loop.trips) : Fin 1 → Nat :=
  let c0_i32_3 : BitVec 32 := 0#32
  let c1_i32_5 : BitVec 32 := 1#32
  let arg11 : BitVec 32 := Scf.iv c0_i32_3 c1_i32_5 k1_t2
  let c128_i32 : BitVec 32 := 128#32
  let v6 : BitVec 32 := Scalar.muli arg11 c128_i32
  ![v6.toNat]
def k1_off5 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let c0_i32_11 : BitVec 32 := 0#32
  ![arg11.toNat, 0]
@[reducible] def k1_t3_loop : Scf.Loop 32 :=
  let c0_i32_8 : BitVec 32 := 0#32
  let c32_i32 : BitVec 32 := 32#32
  let v5 : BitVec 32 := Scalar.addi c0_i32_8 c32_i32
  let c1_i32_9 : BitVec 32 := 1#32
  ⟨c0_i32_8, v5, c1_i32_9⟩
def k1_off6 (k1_t3 : Fin k1_t3_loop.trips) (c0_i32_11 : BitVec 32) : Fin 1 → Nat :=
  let c0_i32_8 : BitVec 32 := 0#32
  let c1_i32_9 : BitVec 32 := 1#32
  let arg11 : BitVec 32 := Scf.iv c0_i32_8 c1_i32_9 k1_t3
  let c4_i32 : BitVec 32 := 4#32
  let v6 : BitVec 32 := Scalar.muli arg11 c4_i32
  let v7 : BitVec 32 := Scalar.addi v6 c0_i32_11
  let c16_i32_12 : BitVec 32 := 16#32
  let v8 : BitVec 32 := Scalar.muli v7 c16_i32_12
  let v9 : Index := Scalar.indexCast v8
  ![v9.toNat]
def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x128x1 : Shape := ⟨3, ![65536, 128, 1]⟩
abbrev S_ : Shape := ⟨0, ![]⟩
abbrev S65536x128 : Shape := ⟨2, ![65536, 128]⟩
abbrev S65536 : Shape := ⟨1, ![65536]⟩
abbrev S65536x1 : Shape := ⟨2, ![65536, 1]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S65536x128x1, .f32⟩
  | .hbm, ⟨1, _⟩ => ⟨S65536x128x1, .f32⟩
  | .hbm, ⟨2, _⟩ => ⟨S65536x128x1, .f32⟩
  | .hbm, ⟨3, _⟩ => ⟨S65536x128x1, .f32⟩
  | .hbm, ⟨4, _⟩ => ⟨S_, .f32⟩
  | .hbm, ⟨5, _⟩ => ⟨S65536x128x1, .f32⟩
  | .hbm, ⟨6, _⟩ => ⟨S65536x128x1, .f32⟩
  | .hbm, ⟨7, _⟩ => ⟨S65536x128, .f32⟩
  | .hbm, ⟨8, _⟩ => ⟨S_, .f32⟩
  | .hbm, ⟨9, _⟩ => ⟨S_, .f32⟩
  | .hbm, ⟨10, _⟩ => ⟨S65536x128, .f32⟩
  | .hbm, ⟨11, _⟩ => ⟨S_, .f32⟩
  | .hbm, ⟨12, _⟩ => ⟨S65536x128, .f32⟩
  | .hbm, ⟨13, _⟩ => ⟨S65536x128, .i1⟩
  | .hbm, ⟨14, _⟩ => ⟨S65536x128, .i32⟩
  | .hbm, ⟨15, _⟩ => ⟨S_, .i32⟩
  | .hbm, ⟨16, _⟩ => ⟨S65536, .i32⟩
  | .hbm, ⟨17, _⟩ => ⟨S65536x1, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S65536x1, .i32⟩
  | .hbm, ⟨22, _⟩ => ⟨S65536x1, .i32⟩
  | .hbm, ⟨23, _⟩ => ⟨S_, .i32⟩
  | .hbm, ⟨24, _⟩ => ⟨S65536x1, .i32⟩
  | .hbm, ⟨25, _⟩ => ⟨S65536x1, .i32⟩
  | .hbm, ⟨26, _⟩ => ⟨S65536x128, .f32⟩
  | .hbm, ⟨27, _⟩ => ⟨S_, .i32⟩
  | .hbm, ⟨28, _⟩ => ⟨S65536x1, .i32⟩
  | .hbm, ⟨29, _⟩ => ⟨S65536x1, .i1⟩
  | .hbm, ⟨30, _⟩ => ⟨S_, .i32⟩
  | .hbm, ⟨31, _⟩ => ⟨S65536x1, .i32⟩
  | .hbm, ⟨32, _⟩ => ⟨S65536x1, .i32⟩
  | .hbm, ⟨33, _⟩ => ⟨S65536x1, .i32⟩
  | .hbm, ⟨34, _⟩ => ⟨S65536x1x1, .i32⟩
  | .hbm, ⟨35, _⟩ => ⟨S1, .i32⟩
  | .hbm, ⟨36, _⟩ => ⟨S_, .i32⟩
  | .hbm, ⟨37, _⟩ => ⟨S65536x1x1, .i32⟩
  | .hbm, ⟨38, _⟩ => ⟨S65536x1x1, .i1⟩
  | .hbm, ⟨39, _⟩ => ⟨S1x1x1, .i32⟩
  | .hbm, ⟨40, _⟩ => ⟨S65536x1x1, .i32⟩
  | .hbm, ⟨41, _⟩ => ⟨S65536x1x1, .i1⟩
  | .hbm, ⟨42, _⟩ => ⟨S65536x1x1, .i1⟩
  | .hbm, ⟨43, _⟩ => ⟨S_, .i1⟩
  | .hbm, ⟨44, _⟩ => ⟨S65536x1, .i1⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | _, _ => ⟨S65536x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v12 : Ref sig .tc := ⟨.hbm, 48, rfl⟩

abbrev nD : Nat := 1
abbrev τ : Topo := Topo.v7x

variable {F : FTy → Type} [FloatOps F]
-- ==== Proof.StreamBatch.lean ====
/-
  Several INDIRECT GATHERS OUTSTANDING ON ONE SEMAPHORE. A stream of `o` rows is issued into a batch of row transfers
  (`Transfers.Batch`): every row of every stream is one transfer of the batch, each crediting the same amount `N`, and
  stream number `b` holds the issue rights of transfers `j … j + o - 1`. The waits are then the batch's: a wait for one
  stream's credit consumes `o` transfers' units and hands back nothing, and after the last of them the batch is
  collected whole. Nothing here speaks of a particular kernel.
-/
module

public import Idealize.ShloMosaic.Lib.Batch
public import Idealize.ShloMosaic.Lib.SparseCore.Stream

@[expose] public section

noncomputable section

namespace Cert.Proof.StreamBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

/-! ## Issue rights, a block at a time -/

section Pending

variable {M : Type} [URA M] {n : ℕ}

/-- What is pending from `j` is the block of the next `o` and what is pending from `j + o`. -/
theorem bigSep_pending_block (Φ : Fin n → sProp M) (j o : ℕ) (h : j + o ≤ n) :
    bigSep (Transfers.pending j) Φ
      = iprop(bigSep Finset.univ (fun r : Fin o => Φ ⟨j + r.val, by omega⟩) ∗ bigSep (Transfers.pending (j + o)) Φ) := by
  let e : Fin o ↪ Fin n := ⟨fun r => ⟨j + r.val, by omega⟩, fun a b hab => Fin.ext (by have := Fin.mk.inj hab; omega)⟩
  have hset : Transfers.pending (n := n) j = Finset.univ.map e ∪ Transfers.pending (j + o) := by
    ext t
    simp only [Transfers.pending, Finset.mem_filter, Finset.mem_univ, true_and, Finset.mem_union, Finset.mem_map]
    constructor
    · intro ht
      by_cases hlt : t.val < j + o
      · exact .inl ⟨⟨t.val - j, by omega⟩, Fin.ext (show j + (t.val - j) = t.val by omega)⟩
      · exact .inr (by omega)
    · rintro (⟨r, rfl⟩ | ht)
      · exact Nat.le_add_right j r.val
      · omega
  have hdis : Disjoint (Finset.univ.map e) (Transfers.pending (n := n) (j + o)) := Finset.disjoint_left.mpr fun t h1 h2 => by
    obtain ⟨r, -, rfl⟩ := Finset.mem_map.mp h1
    have h3 := (Finset.mem_filter.mp h2).2
    have h4 : j + o ≤ j + r.val := h3
    have := r.isLt
    omega
  rw [hset]
  refine (BI.bigSep_union hdis).trans ?_
  rw [BI.bigSep_map]
  rfl

/-- Nothing is pending from the end. -/
theorem pending_end : Transfers.pending (n := n) n = ∅ := by
  ext t; simp only [Transfers.pending, Finset.mem_filter, Finset.mem_univ, true_and, Finset.notMem_empty, iff_false]; omega

/-- Row `r` of block `b` is one of the `m · o`. -/
theorem block_lt {m o : ℕ} (b : Fin m) (r : Fin o) : b.val * o + r.val < m * o := by
  have h : (b.val + 1) * o ≤ m * o := Nat.mul_le_mul_right o b.isLt
  have := r.isLt
  rw [Nat.add_mul, Nat.one_mul] at h
  omega

/-- A family over all `m · o` transfers, regrouped as `m` blocks of `o`. -/
theorem bigSep_blocks (m o : ℕ) (Φ : Fin (m * o) → sProp M) :
    bigSep Finset.univ Φ
      = bigSep Finset.univ fun b : Fin m => bigSep Finset.univ fun r : Fin o =>
          Φ ⟨b.val * o + r.val, block_lt b r⟩ := by
  rw [BI.bigSep_univ_equiv finProdFinEquiv, BI.bigSep_univ_prod]
  refine BI.bigSep_congr fun b _ => BI.bigSep_congr fun r _ => ?_
  congr 1
  exact Fin.ext (show r.val + o * b.val = b.val * o + r.val by rw [Nat.add_comm, Nat.mul_comm])

end Pending

/-! ## One stream of a batch -/

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What row `r` of a gather delivers: the destination's row written with the source's row that the list names, the
    list's entry back, and the piece of the source's share that the row read under. -/
def rowDelivery (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (r : Fin (s.size hg.axis')) : sProp 𝕄 :=
  iprop(((dst.view.loc c ↦[(dst.view.slice (s.rowRect hg.axis' r)).set]{fullShare}
          ((dst.view.slice (s.rowRect hg.axis' r)).write (Elt F) fd
            (fun i => src.view.read (Elt F) fs (hg.rowIdx (rows (offs.view.read (Elt F) fo) hn hin r) i)) Finset.univ))
      ∗ (offs.view.loc c ↦[{offs.view.emb (si.rowMajor.symm (r.cast hn.symm))}]{qo} fo))
    ∗ (src.view.loc c ↦[src.view.set]{pieceOf q _ ho r} fs))

/-- THE ISSUE of one gather into a batch whose transfers each credit `N`: the batch has issued `j` transfers and consumed
    `u` units (`hu`); row `r` of the gather is transfer `j + r`, and what it delivers entails that transfer's stated
    delivery (`hD`). The thread gives the source's share, the destination outright and a share of the offset list, whose
    words are all in range (`hin`), and continues holding the batch with the stream's rows issued. -/
theorem wp_gatherIntoBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {D : Fin n → sProp 𝕄} {j u : ℕ} (ι : Ix) (N : ℕ)
    (hN : ∀ r, (dst.slice (s.rowRect hg.axis' r) (s.stride_rowRect hg.axis' r)).view.dmaCredit = N)
    (ho : 0 < s.size hg.axis') (hj : j + s.size hg.axis' ≤ n) (hu : u ≤ j * N)
    (hin : ∀ x, (offs.view.read (Elt F) fo x).toNat < s₀.size hg.axis)
    (hD : ∀ r : Fin (s.size hg.axis'), rowDelivery (Ix := Ix) (Name := Name) (U := U) (Lvl := Lvl) c src dst hg offs hn ho q qo fs fd fo hin r ⊢ D ⟨j + r.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let St : Stream nD τ sig (Elt F) :=
    Stream.issued c offs.view hn sem (fun r w => (rowOf (s₀.size hg.axis) w).map (gatherRow c src dst hg sem hsrc he hsp hr r)) 0
  let named : Fin (s.size hg.axis') → Fin (s₀.size hg.axis) := rows (offs.view.read (Elt F) fo) hn hin
  let rd : Fin (s.size hg.axis') → RowDma τ sig (Elt F) c.2 sem := fun r => gatherRow c src dst hg sem hsrc he hsp hr r (named r)
  -- every word names a row, and the rows of one entry credit alike
  have hagree : St.RowsAgree := fun r w w' ρ ρ' h h' => by
    obtain ⟨_, _, rfl⟩ := Option.map_eq_some_iff.mp h
    obtain ⟨_, _, rfl⟩ := Option.map_eq_some_iff.mp h'
    rfl
  have hrow : ∀ r, St.row r (St.word fo r) = some (rd r) := fun r => by
    change (rowOf (s₀.size hg.axis) (offs.view.read (Elt F) fo (St.entry r))).map _ = _
    rw [rowOf_of_lt (hin _)]; rfl
  have hentry : Function.Bijective St.entry := si.rowMajor.symm.bijective.comp (finCongr hn.symm).bijective
  have htotal : ∑ r, (rd r).dst.view.dmaCredit = s.size hg.axis' * N :=
    (Finset.sum_congr rfl fun r _ => hN r).trans (by rw [Finset.sum_const, Finset.card_univ, Fintype.card_fin, smul_eq_mul])
  unfold Transfers.Batch
  iintro ⟨Hs, Hd, Ho, ⟨%γ, %γ₀, %κ, #Hinv, HI, H0, Hcred⟩⟩ Hk
  ihave HI' := (Entails.of_eq (bigSep_pending_block (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view St.entry hentry qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hagree hrow htotal) $$ [Hd' Ho' Hs' Hγ]
  · have hone : ∀ r : Fin (s.size hg.axis'), iprop(inv κ (Transfers.batchBody EC (c, SemLoc.dma sem) N D γ γ₀)
          ∗ ((((dst.view.loc c ↦[(dst.view.slice (s.rowRect hg.axis' r)).set]{fullShare} fd) ∗ St.heldEntry qo fo r)
            ∗ (src.view.loc c ↦[src.view.set]{pieceOf q _ ho r} fs)) ∗ count EC (γ ⟨j + r.val, by omega⟩) 0))
        ⊢ iprop(St.heldEntry qo fo r ∗ (St.heldEntry qo fo r -∗ rowRes c (rd r))) := fun r => by
      have hcu : iprop(inv κ (Transfers.batchBody EC (c, SemLoc.dma sem) N D γ γ₀) ∗ count EC (γ ⟨j + r.val, by omega⟩) 0)
          ⊢ creditUpdate (c, SemLoc.dma sem) ((rd r).dst.view.amount (.dma sem)) 0
              (rowDelivery (Ix := Ix) (Name := Name) (U := U) (Lvl := Lvl) c src dst hg offs hn ho q qo fs fd fo hin r) := by
        rw [show (rd r).dst.view.amount (.dma sem) = N from hN r]
        exact Transfers.batch_creditUpdate EC ⟨j + r.val, by omega⟩ (hD r)
      iintro ⟨#Hinv, ⟨⟨Hrow, He⟩, Hsq⟩, Hc⟩
      isplitl [He]; · iexact He
      iintro He
      unfold rowRes
      iexists pieceOf q _ ho r, fs, iprop((dst.view.loc c ↦[(dst.view.slice (s.rowRect hg.axis' r)).set]{fullShare}
          ((dst.view.slice (s.rowRect hg.axis' r)).write (Elt F) fd (fun i => src.view.read (Elt F) fs (hg.rowIdx (named r) i)) Finset.univ)) ∗ St.heldEntry qo fo r)
      isplitl [Hsq]; · iexact Hsq
      isplitl [Hrow He]
      · iapply writeUpdate_frame
        isplitl [Hrow]
        · iapply (pointsTo_writeUpdate c (v := dst.view.slice (s.rowRect hg.axis' r)) subset_rfl) $$ Hrow
        · iexact He
      · iapply hcu
        isplitr; · iexact Hinv
        iexact Hc
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun r _ => hone r)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.StreamBatch

end
-- ==== Proof.Setup.lean ====
/-
  What the program's proof fixes once: the launch's configuration, the ghost algebra (the handshakes' rounds, the
  TensorCore pipeline's rounds, the transfers' counters), the buffers' locations as the SparseCores and the TensorCore
  both name them, and the coordinates of the elements that a tile's copies move, one number `t < 2048` each.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.StreamBatch

@[expose] public section

noncomputable section

namespace Cert.Proof.Setup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call runs on 16 vector subcores of a SparseCore. -/
theorem nSub_zero : (K (F := F)).nSub 0 = 16 := rfl
/-- The call runs on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts of the launch: its semaphores are distinct and unscoped, its shared buffers are no task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra -/

abbrev UH : Type := URounds (GSem nD τ sig) ℕ
abbrev UP : Type := UR sig nD τ
abbrev UU : Type := UH × (UP × Counters)

/-- The machine's algebra at this proof's choices. -/
abbrev MM (F : FTy → Type) : Type := MT nD τ sig (HIx 1) (Elt F) ℕ UU ℕ

abbrev EH : Emb UH (MM F) := embL
/-- The pipeline's rounds, in the middle of the three. -/
def EP : Emb UP (MM F) := (Emb.inl : Emb UP (UP × Counters)).trans embR
instance EP_landsIn : (EP (F := F)).LandsIn (upEmb : UEmb _ (MM F)) := by
  unfold EP; infer_instance

/-! ## The buffers -/

abbrev iLoc (d : Dev nD) : Loc nD τ sig := (SparseCore.T d).loc main_v2
abbrev sLoc (d : Dev nD) : Loc nD τ sig := (SparseCore.T d).loc main_v3
abbrev eLoc (d : Dev nD) : Loc nD τ sig := (SparseCore.T d).loc main_v4
abbrev oLoc (d : Dev nD) : Loc nD τ sig := (SparseCore.T d).loc main_v5

/-! ## The elements that a tile's copies move -/

/-- Element `t` of a row of 2048 samples. -/
def x1 (t : Fin 2048) : S2048.Idx := fun | 0 => t
/-- Entry `t` of a tile's list: row `t / 128`, lane `t % 128`. -/
def x2 (t : Fin 2048) : S16x128.Idx := fun
  | 0 => ⟨t.val / 128, show t.val / 128 < 16 by have := t.isLt; omega⟩
  | 1 => ⟨t.val % 128, show t.val % 128 < 128 from Nat.mod_lt _ (by decide)⟩

/-- Each place of a row is met once. -/
theorem x1_bij : Function.Bijective x1 :=
  ⟨fun _ _ h => congrFun h 0, fun y => ⟨y 0, funext fun a => match a with | 0 => rfl⟩⟩

/-- Each place of a list is met once. -/
theorem x2_bij : Function.Bijective x2 := by
  refine ⟨fun a b h => ?_, fun y => ?_⟩
  · have h0 : a.val / 128 = b.val / 128 := congrArg Fin.val (congrFun h 0)
    have h1 : a.val % 128 = b.val % 128 := congrArg Fin.val (congrFun h 1)
    exact Fin.ext (by omega)
  · have h0 : (y 0).val < 16 := (y 0).isLt
    have h1 : (y 1).val < 128 := (y 1).isLt
    refine ⟨⟨128 * (y 0).val + (y 1).val, by omega⟩, funext fun a => ?_⟩
    match a with
    | 0 => exact Fin.ext (show (128 * (y 0).val + (y 1).val) / 128 = (y 0).val by omega)
    | 1 => exact Fin.ext (show (128 * (y 0).val + (y 1).val) % 128 = (y 1).val by omega)

/-- Transfer `r` of stream `b`, in the order of issue. -/
abbrev tr (b : Fin 16) (r : Fin 128) : Fin 2048 := ⟨b.val * 128 + r.val, StreamBatch.block_lt b r⟩

/-- The table's element that a word names. -/
def at8 (v : BitVec 32) : S8388608.Idx := fun | 0 => Fin.ofNat 8388608 v.toNat

end Cert.Proof.Setup

end
-- ==== Proof.Region.lean ====
/-
  THE TENSORCORE'S CALL: at each of its eight points two blocks of 4096 rays' weights are read and the 8192 rays' indices
  written. What one point computes, what the whole array then holds as a function of the weights, and the call's rule.
-/
module

public import proofs.«01_k».proof.Proof.Setup
public import proofs.«01_k».proof.Proof.Gen.KernelIdeal.Points
public import Idealize.ShloMosaic.Lib.Pipeline.RegionsLoop
public import Idealize.ShloMosaic.Lib.Pipeline.Value
public import Idealize.ShloMosaic.Lib.Pipeline.ValueKit.Geometry

@[expose] public section

noncomputable section

namespace Cert.Proof.Region

open Cert.KernelIdeal Cert.KernelIdeal.Gen Cert.Proof.Setup

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MM F

/-- The indices of the 8192 rays of point `i`, from its two blocks of weights. -/
def words (i : BitVec 32) (a b : S4096x128.Idx → F .f32) : S8192.Idx → BitVec 32 := k0_pay1 i (k0_pay2 a) (k0_pay3 b)

/-- The offset zero, of one axis. -/
theorem off1 : (![0] : Fin 1 → ℕ) = fun _ => 0 := funext fun a => by fin_cases a; rfl
/-- The offset zero, of two axes. -/
theorem off2 : (![0, 0] : Fin 2 → ℕ) = fun _ => 0 := funext fun a => by fin_cases a <;> rfl

/-- The body's run: the two blocks read, the indices left in the third buffer. -/
theorem body_run (c : Dev nD) (i : grid0.Coords) (M0 : Memref sig .tc .vmem S4096x128 .f32) (h0 : M0.IsWhole) (M1 : Memref sig .tc .vmem S4096x128 .f32) (h1 : M1.IsWhole)
    (M2 : Memref sig .tc .vmem S8192 .i32) (h2 : M2.IsWhole) (a b : S4096x128.Idx → F .f32) (w : S8192.Idx → BitVec 32) (Q : PUnit → sProp 𝕄) :
    iprop(owns (Val := Elt F) (c : Thread nD τ) M0 fullShare a ∗ owns (Val := Elt F) (c : Thread nD τ) M1 fullShare b ∗ owns (Val := Elt F) (c : Thread nD τ) M2 fullShare w
        ∗ (iprop(owns (Val := Elt F) (c : Thread nD τ) M0 fullShare a ∗ owns (Val := Elt F) (c : Thread nD τ) M1 fullShare b
            ∗ owns (Val := Elt F) (c : Thread nD τ) M2 fullShare (words (BitVec.ofNat 32 (i 0).val) a b)) -∗ Q ⟨⟩))
      ⊢ wp frame (wpE (defs₀ (F := F)) Variants.none c none) Set.univ (cc0__tc_index_body i M0 h0 M1 h1 M2 h2) Q := by
  simp only [cc0__tc_index_body_eq_skeleton]; unfold cc0__tc_index_body_skel
  simp only [k0_part1_eq_skeleton]; unfold k0_part1_skel
  unfold owns
  iintro ⟨⟨%f0, %hf0, H0⟩, ⟨%f1, %hf1, H1⟩, ⟨%f2, %hf2, H2⟩, Hk⟩
  sl_exec
  sl_step
  iapply Hk
  isplitl [H0]; · iexists _; isplitr; swap; (· iexact H0); ipureintro; exact hf0
  isplitl [H1]; · iexists _; isplitr; swap; (· iexact H1); ipureintro; exact hf1
  iexists _; isplitr; swap; (· iexact H2); ipureintro
  subst hf0 hf1
  rw [View.read_writes_eq_canon _ _ _ (fun y => ⟨_, List.mem_singleton_self _, View.mem_set_unit_zero off1 inb_S8192_S8192_0 y⟩), View.canon_unit_zero off1]
  unfold words
  exact congrArg₂ (fun x y => k0_pay1 (BitVec.ofNat 32 (i 0).val) (k0_pay2 x) (k0_pay3 y)) (View.ld_unit_zero off2 _ _) (View.ld_unit_zero off2 _ _)

/-! ## The proof data -/

variable (V : (c : Dev nD) → (b : Ref sig .tc) → Buf (Elt F) ((c : Thread nD τ).loc b))
variable (O : Dev nD → CellTallies nD τ sig (HIx 1)) (lvl : ℕ)

/-- Point `t`'s two blocks of weights, as the fetches stage them. -/
abbrev blkA (c : Dev nD) (t : Fin cfg0.N) : S4096x128.Idx → F .f32 := ((cfg0.win 0).blk t).view.read (Elt F) (V c main_v0)
abbrev blkB (c : Dev nD) (t : Fin cfg0.N) : S4096x128.Idx → F .f32 := ((cfg0.win 1).blk t).view.read (Elt F) (V c main_v0)

/-- The indices that point `t` leaves. -/
def stepWords (c : Dev nD) (t : Fin cfg0.N) : S8192.Idx → BitVec 32 :=
  words (BitVec.ofNat 32 (grid0.coords t 0).val) (blkA V c t) (blkB V c t)

/-- What the call keeps beside its windows: the other scoped buffers, at some contents. -/
abbrev Φc (c : Dev nD) : sProp 𝕄 := Pipeline.scopedRest (Ix := HIx 1) (Name := ℕ) (U := UU) (Lvl := ℕ) (Val := Elt F) spec0 c

/-- The proof data, entered from the valuation `V`, the core owing `O c` throughout. -/
def dat (c : Dev nD) : Dat τ (Elt F) (HIx 1) ℕ UU ℕ cfg0 c where
  A w := V c (Pipeline.arrRef spec0 w)
  after w t := match w with
    | ⟨0, _⟩ => blkA V c t
    | ⟨1, _⟩ => blkB V c t
    | ⟨2, _⟩ => stepWords V c t
  Φ _ := Φc c
  q := Pipeline.shareOf spec0
  owed _ := O c
  recorded _ := {p | (K (F := F)).lev (SparseCore.T c, p.1) p.2 ≤ lvl}

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | 0 => dat V O lvl

/-- The first window holds its block before a step. -/
theorem before0 (c : Dev nD) (t : Fin cfg0.N) (d) : (dat V O lvl c).before 0 t d = blkA V c t := by
  unfold Dat.before; rw [if_pos (fetch0_0 t)]; rfl

/-- The second window holds its block before a step. -/
theorem before1 (c : Dev nD) (t : Fin cfg0.N) (d) : (dat V O lvl c).before 1 t d = blkB V c t := by
  unfold Dat.before; rw [if_pos (fetch0_1 t)]; rfl

/-- The body's obligation at every point. -/
theorem body_obligation (c : Dev nD) : BodyObligation (dat V O lvl c) (defs₀ (F := F)) 𝒱₀ (none : HIx 1) Set.univ := fun t => by
  rw [bigSep_W0, bigSep_W0]
  rw [show (dat V O lvl c).Φ t.castSucc = Φc c from rfl, show (dat V O lvl c).Φ t.succ = Φc c from rfl,
    show (dat V O lvl c).owesAt none t.succ = (dat V O lvl c).owesAt none t.castSucc from rfl]
  iintro ⟨HΦ, HO, ⟨%d0, H0⟩, ⟨%d1, H1⟩, ⟨%d2, H2⟩⟩
  rw [before0, before1]
  iapply (body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (blkA V c t) (blkB V c t) _ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

/-! ## The call -/

/-- The array of indices as the call leaves it. -/
def indexed (c : Dev nD) : Buf (Elt F) ((c : Thread nD τ).loc main_v1) := (dat V O lvl c).arrAt 2 cfg0.N

variable (Vp : (c : Dev nD) → (b : Ref sig .tc) → Buf (Elt F) ((c : Thread nD τ).loc b))

set_option backward.isDefEq.respectTransparency.types false in
/-- The call as a region: from the buffers at `V` to the buffers at `Vp`, where `Vp` has the indices in their array and is `V`
    elsewhere; what the core owes, and the bound on what it has waited for, stay. -/
def reg (hO : ∀ c g, O c g none = 0) (hVp_out : ∀ c, Vp c main_v1 = indexed V O lvl c)
    (hVp_ne : ∀ c (b : Ref sig .tc), b ≠ main_v1 → Vp c b = V c b) :
    Pipeline.RegionSeg (pcfgs (F := F)) adm (pdats V O lvl) (none : HIx 1) defs₀ 𝒱₀ (K (F := F)).L (K (F := F)).lev 0 where
  win := (launch₀0).win
  block_pos := (launch₀0).block_pos
  stage_whole := (launch₀0).stage_whole
  K := PEmpty
  osem k := k.elim
  ho := Pipeline.OwnSemFacts.none _
  hbody c := (body_obligation V O lvl c).loose
  hwaits c := Pipeline.cellsWaits_intro (Pipeline.pin (pcfgs (F := F)) adm) (pdats V O lvl) none 0 c
    fun w s t => (K (F := F)).mayWait_none (thr := SparseCore.T c) _ (hO c)
  pre c := iprop(unscopedBufs c (V c) ∗ ∃ W, ⌜(K (F := F)).WBelow (SparseCore.T c) W lvl⌝ ∗ owes (c : Thread nD τ) (O c) W)
  post c := iprop(unscopedBufs c (Vp c) ∗ ∃ W, ⌜(K (F := F)).WBelow (SparseCore.T c) W lvl⌝ ∗ owes (c : Thread nD τ) (O c) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs_shared (p := 0) (pcfgs (F := F)) adm (pdats V O lvl) (launch₀0).win
      (launch₀0).sharedIn (launch₀0).arr_whole c (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O lvl 0 c).Φ 0 = Φc c from rfl]
    iintro ⟨-, -, Hr⟩; iexact Hr
  hout c := by
    rw [Pipeline.ownSems0_none, show (pdats V O lvl 0 c).Φ (Fin.last _) = Φc c from rfl]
    iintro Hr
    isplitr; · iempintro
    isplitr; · iempintro
    iexact Hr
  hexit c := by
    have hjoin := Pipeline.unscopedBufs_of_arrays_shared (p := 0) (pcfgs (F := F)) adm (Ix := HIx 1) (Name := ℕ) (U := UU) (Lvl := ℕ)
      (launch₀0).win (launch₀0).sharedIn (launch₀0).arr_whole c
      (pdats V O lvl) (fun _ _ => rfl) (V c) (Vp c) ((pdats V O lvl 0 c).arrAt · cfg0.N)
      (fun w => by
        fin_cases w
        · exact ((pdats V O lvl 0 c).arrAt_in 0 rfl _).trans (hVp_ne c main_v0 (by decide)).symm
        · exact ((pdats V O lvl 0 c).arrAt_in 1 rfl _).trans (hVp_ne c main_v0 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact (Nat.le_of_eq ((K (F := F)).lev_none _)).trans (Nat.zero_le _)

/-! ## The array of indices as a function of the weights -/

/-- Rows `8192 t + 4096 h, …` of the weights, 4096 of them. -/
def rows (f : S65536x128.Idx → F .f32) (t h : ℕ) (ht : t < 8) (hh : h < 2) : S4096x128.Idx → F .f32 := fun j =>
  f fun | 0 => ⟨t * 8192 + h * 4096 + (j 0).val, by have : (j 0).val < 4096 := (j 0).isLt; show _ < 65536; omega⟩ | 1 => j 1

/-- The index of every ray: ray `r` is ray `r % 8192` of point `r / 8192`. -/
def indices (f : S65536x128.Idx → F .f32) : S65536.Idx → BitVec 32 := fun r =>
  have hr : (r 0).val / 8192 < 8 := by have : (r 0).val < 65536 := (r 0).isLt; omega
  words (BitVec.ofNat 32 ((r 0).val / 8192)) (rows f ((r 0).val / 8192) 0 hr (by decide)) (rows f ((r 0).val / 8192) 1 hr (by decide))
    fun | 0 => ⟨(r 0).val % 8192, Nat.mod_lt _ (by decide)⟩

/-- The first window's block at a step. -/
theorem index_0 : ∀ t : Fin grid0.N, win0_0.index t = ![2 * t.val, 0] := by decide +kernel
/-- The second window's block at a step. -/
theorem index_1 : ∀ t : Fin grid0.N, win0_1.index t = ![2 * t.val + 1, 0] := by decide +kernel
/-- The output's block at a step. -/
theorem index_2 : ∀ t : Fin grid0.N, win0_2.index t = ![t.val] := by decide +kernel
/-- A step's coordinate is its number. -/
theorem coords_0 : ∀ t : Fin grid0.N, (grid0.coords t 0).val = t.val := by decide +kernel

/-- `indices` at the ray `y` of point `t`. -/
theorem indices_at (f : S65536x128.Idx → F .f32) (t : ℕ) (ht : t < 8) (y : S8192.Idx) (r : S65536.Idx) (hr : (r 0).val = t * 8192 + (y 0).val) :
    indices f r = words (BitVec.ofNat 32 t) (rows f t 0 ht (by decide)) (rows f t 1 ht (by decide)) y := by
  have hy : (y 0).val < 8192 := (y 0).isLt
  have h1 : (r 0).val / 8192 = t := by omega
  have h2 : (fun | 0 => ⟨(r 0).val % 8192, Nat.mod_lt _ (by decide)⟩ : S8192.Idx) = y := by
    funext a
    match a with
    | 0 => exact Fin.ext (show (r 0).val % 8192 = (y 0).val by omega)
  unfold indices
  simp only [h2]
  subst h1
  rfl

/-- The first window's block: the first half of the step's rays. -/
theorem blkA_eq (c : Dev nD) (t : Fin grid0.N) : blkA V c t = rows (V c main_v0) t.val 0 t.isLt (by decide) := by
  funext j
  refine congrArg (V c main_v0) ?_
  funext a
  match a with
  | 0 =>
    apply Fin.ext
    show win0_0.index t 0 * 4096 + 1 * (j 0).val = t.val * 8192 + 0 * 4096 + (j 0).val
    rw [index_0, show (![2 * t.val, 0] : Fin 2 → ℕ) 0 = 2 * t.val from rfl]; omega
  | 1 =>
    apply Fin.ext
    show win0_0.index t 1 * 128 + 1 * (j 1).val = (j 1).val
    rw [index_0, show (![2 * t.val, 0] : Fin 2 → ℕ) 1 = 0 from rfl]; omega

/-- The second window's block: the second half of the step's rays. -/
theorem blkB_eq (c : Dev nD) (t : Fin grid0.N) : blkB V c t = rows (V c main_v0) t.val 1 t.isLt (by decide) := by
  funext j
  refine congrArg (V c main_v0) ?_
  funext a
  match a with
  | 0 =>
    apply Fin.ext
    show win0_1.index t 0 * 4096 + 1 * (j 0).val = t.val * 8192 + 1 * 4096 + (j 0).val
    rw [index_1, show (![2 * t.val + 1, 0] : Fin 2 → ℕ) 0 = 2 * t.val + 1 from rfl]; omega
  | 1 =>
    apply Fin.ext
    show win0_1.index t 1 * 128 + 1 * (j 1).val = (j 1).val
    rw [index_1, show (![2 * t.val + 1, 0] : Fin 2 → ℕ) 1 = 0 from rfl]; omega

/-- What the call leaves: the indices of the weights. -/
theorem indexed_eq (c : Dev nD) : indexed V O lvl c = indices (V c main_v0) := by
  refine (dat V O lvl c).arrAt_eq_of_covers 2 _ (by decide +kernel) fun t hf y => ?_
  blk_simp
  refine Eq.trans ?_ (indices_at (V c main_v0) t.val t.isLt y ((win0_2.blk t).view.emb y) ?_).symm
  · show stepWords V c t y = _
    unfold stepWords
    rw [blkA_eq, blkB_eq, coords_0]
  · show win0_2.index t 0 * 8192 + 1 * (y 0).val = t.val * 8192 + (y 0).val
    rw [index_2, show (![t.val] : Fin 1 → ℕ) 0 = t.val from rfl]; omega

end Cert.Proof.Region

end
-- ==== Proof.Issue.lean ====
/-
  ONE GATHER of the tile's loop, issued into its semaphore's batch. A tile fills a row buffer of 2048 samples by sixteen
  gathers of 128, gather `b` of elements `128 b …`, each element from the table at the word that the tile's list holds at
  the same place. Transfer `t` of the batch delivers element `t` of the row buffer, entry `t` of the list's share, and a
  piece of the table's share.
-/
module

public import proofs.«01_k».proof.Proof.Setup

@[expose] public section

noncomputable section

namespace Cert.Proof.Issue

open Cert.KernelIdeal Cert.KernelIdeal.Gen Cert.Proof.Setup Cert.Proof.StreamBatch

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F
local notation "liV" => (Memref.whole Cert.KernelIdeal.cc1_scratch0 : Memref Cert.KernelIdeal.sig Kind.scVector Space.vmem Cert.KernelIdeal.S16x128 EltTy.i32)

variable (d : Dev nD) (cc : Fin τ.nSC) (jj : Fin τ.nSub)
variable (M : Memref sig .scVector .vmem S2048 .f32) (A : Memref sig .scVector .hbm S8388608 .f32)

/-- The table's share, cut for the sixteen gathers, and one gather's for its 128 rows. -/
abbrev cutB (q : PosShare TreeShare) (b : Fin 16) : PosShare TreeShare := pieceOf q 16 (by decide) b
abbrev cutR (q : PosShare TreeShare) (b : Fin 16) (r : Fin 128) : PosShare TreeShare := pieceOf (cutB q b) 128 (by decide) r

/-- What the sixteen gathers leave in the row buffer: at each place, the table at the word the list holds there. -/
def gathered (tab : S8388608.Idx → Elt F .f32) (w : S16x128.Idx → BitVec 32) : S2048.Idx → Elt F .f32 :=
  fun y => tab (at8 (w (x2 ⟨(y 0).val, (y 0).isLt⟩)))

/-- What a tile gives to transfer `t`: element `t` of the row buffer, and entry `t` of its share of the list. -/
def given (qo : PosShare TreeShare) (fd : Buf (Elt F) (M.view.loc (V d cc jj))) (w : S16x128.Idx → BitVec 32) (t : Fin 2048) : sProp 𝕄 :=
  iprop((M.view.loc (V d cc jj) ↦[{M.view.emb (x1 t)}]{fullShare} fd) ∗ ((liV).view.loc (V d cc jj) ↦[{x2 t}]{qo} w))

/-- What transfer `t` delivers. -/
def delivered (q qo : PosShare TreeShare) (f : Buf (Elt F) (A.view.loc (V d cc jj))) (fd : Buf (Elt F) (M.view.loc (V d cc jj)))
    (w : S16x128.Idx → BitVec 32) (t : Fin 2048) : sProp 𝕄 :=
  iprop(given d cc jj M qo (M.view.write (Elt F) fd (gathered (A.view.read (Elt F) f) w) Finset.univ) w t
    ∗ (A.view.loc (V d cc jj) ↦[A.view.set]{cutR q ⟨t.val / 128, by have := t.isLt; omega⟩ ⟨t.val % 128, Nat.mod_lt _ (by decide)⟩} f))

instance delivered_storable (q qo : PosShare TreeShare) (f : Buf (Elt F) (A.view.loc (V d cc jj))) (fd : Buf (Elt F) (M.view.loc (V d cc jj)))
    (w : S16x128.Idx → BitVec 32) (t : Fin 2048) : Storable (upEmb : UEmb _ 𝕄) (delivered d cc jj M A q qo f fd w t) := by
  unfold delivered given; infer_instance

/-! ## The views of gather `b` -/

/-- The row buffer's 128 places that gather `b` fills, the list's row `b`, the table whole, as the body names them. -/
abbrev dstB (b : Fin k1_t1_loop.trips) : Memref sig .scVector .vmem S128 .f32 :=
  M.slice (Rect.unit (s := S2048) (k1_off2 b) S128.size (k1_off2_inb b)) (fun _ => rfl)
abbrev listB (b : Fin k1_t1_loop.trips) : Memref sig .scVector .vmem S128 .i32 :=
  ((liV).slice (Rect.unit (s := S16x128) (k1_off3 b) S1x128.size (k1_off3_inb b)) (fun _ => rfl)).squeeze S128 squeezes_S1x128_S128
abbrev srcB : Memref sig .scVector .hbm S8388608 .f32 :=
  A.slice (Rect.unit (s := S8388608) ![0] S8388608.size inb_S8388608_S8388608_0) (fun _ => rfl)

/-- The first loop makes 16 trips. -/
theorem trips1 : k1_t1_loop.trips = 16 := by decide
abbrev b16 (b : Fin k1_t1_loop.trips) : Fin 16 := b.cast trips1

omit [FloatOps F] in
/-- Place `y` of gather `b` is element `128 b + y` of the row buffer. -/
theorem dstB_emb (b : Fin k1_t1_loop.trips) (y : S128.Idx) (t : Fin 2048) (h : t.val = b.val * 128 + (y 0).val) :
    (dstB M b).view.emb y = M.view.emb (x1 t) := by
  show M.view.emb _ = _
  congr 1
  refine Rect.emb_eq_of_coords _ _ _ fun a => ?_
  match a with
  | 0 =>
    show t.val = k1_off2 b 0 + 1 * (y 0).val
    rw [k1_off2_eq]
    show t.val = 128 * b.val + 1 * (y 0).val
    omega

omit [FloatOps F] in
/-- Entry `y` of the list's row `b` is entry `128 b + y` of the list. -/
theorem listB_emb (b : Fin k1_t1_loop.trips) (y : S128.Idx) (t : Fin 2048) (h : t.val = b.val * 128 + (y 0).val) :
    (listB b).view.emb y = x2 t := by
  have hy : (y 0).val < 128 := (y 0).isLt
  have e : Shape.reshapeEquiv squeezes_S1x128_S128.numel_eq y = (fun | 0 => ⟨0, by decide⟩ | 1 => ⟨(y 0).val, hy⟩ : S1x128.Idx) :=
    Shape.reshapeEquiv_eq_of_rowMajor _ (by
      rw [Shape.rowMajor_val_two, Shape.rowMajor_val_one]
      show 0 * 128 + (y 0).val = (y 0).val
      omega)
  show (Rect.unit (s := S16x128) (k1_off3 b) S1x128.size (k1_off3_inb b)).emb (Shape.reshapeEquiv squeezes_S1x128_S128.numel_eq y) = x2 t
  rw [e]
  refine Rect.emb_eq_of_coords _ _ _ fun a => ?_
  match a with
  | 0 =>
    show t.val / 128 = k1_off3 b 0 + 1 * 0
    rw [k1_off3_eq]
    show t.val / 128 = b.val + 1 * 0
    omega
  | 1 =>
    show t.val % 128 = k1_off3 b 1 + 1 * (y 0).val
    rw [k1_off3_eq]
    show t.val % 128 = 0 + 1 * (y 0).val
    omega

omit [FloatOps F] in
/-- The table's slice is the whole table. -/
theorem srcB_emb (y : S8388608.Idx) : (srcB A).view.emb y = A.view.emb y := by
  show A.view.emb _ = _
  congr 1
  refine Rect.emb_eq_of_coords _ _ _ fun a => ?_
  match a with
  | 0 => exact (show (y 0).val = 0 + 1 * (y 0).val by omega)

omit [FloatOps F] in
/-- The table's slice covers the table. -/
theorem srcB_set : (srcB A).view.set = A.view.set := by
  unfold View.set
  rw [show (srcB A).view.emb = A.view.emb from DFunLike.ext _ _ (srcB_emb A)]

omit [FloatOps F] in
/-- Row `r` of gather `b` is one element. -/
theorem dstB_row (b : Fin k1_t1_loop.trips) (r : Fin 128) :
    ((dstB M b).view.slice (S128.rowRect (gathers_S8388608_S128).axis' r)).set = {M.view.emb (x1 (tr (b16 b) r))} := by
  have hax : (gathers_S8388608_S128).axis' = (0 : Fin 1) := rfl
  have hone : ∀ y : (S128.rowRect (gathers_S8388608_S128).axis' r).shape.Idx,
      ((dstB M b).view.slice (S128.rowRect (gathers_S8388608_S128).axis' r)).emb y = M.view.emb (x1 (tr (b16 b) r)) := fun y => by
    refine dstB_emb M b _ _ ?_
    show b.val * 128 + r.val = b.val * 128 + ((S128.rowRect (0 : Fin 1) r).emb y 0).val
    rw [Shape.rowRect_emb_axis (s := S128) (0 : Fin 1) r y]
  have hne : Nonempty (S128.rowRect (gathers_S8388608_S128).axis' r).shape.Idx := ⟨fun | 0 => ⟨0, show 0 < 1 by decide⟩⟩
  obtain ⟨y₀⟩ := hne
  ext i
  rw [View.set, Finset.mem_map, Finset.mem_singleton]
  exact ⟨fun ⟨y, _, hy⟩ => hy.symm.trans (hone y), fun h => ⟨y₀, Finset.mem_univ _, (hone y₀).trans h.symm⟩⟩

/-! ## The issue -/

/-- Place `r` of a row of 128. -/
def x0 (r : Fin 128) : S128.Idx := fun | 0 => r
omit [FloatOps F] in
/-- Each place of a row of 128 is met once. -/
theorem x0_bij : Function.Bijective x0 :=
  ⟨fun _ _ h => congrFun h 0, fun y => ⟨y 0, funext fun a => match a with | 0 => rfl⟩⟩

omit [FloatOps F] in
/-- The places of gather `b` one by one are its destination, -/
theorem dst_elems (b : Fin k1_t1_loop.trips) (fd : Buf (Elt F) (M.view.loc (V d cc jj))) :
    (bigSep Finset.univ fun r : Fin 128 => (M.view.loc (V d cc jj) ↦[{M.view.emb (x1 (tr (b16 b) r))}]{fullShare} fd : sProp 𝕄))
      = (dstB M b).view.loc (V d cc jj) ↦[(dstB M b).view.set]{fullShare} fd := by
  rw [pointsTo_rows (V d cc jj) (dstB M b).view (gathers_S8388608_S128).axis' fullShare fd]
  exact bigSep_congr fun r _ => congrArg (fun s => (M.view.loc (V d cc jj) ↦[s]{fullShare} fd : sProp 𝕄)) (dstB_row M b r).symm

omit [FloatOps F] in
/-- the list's entries one by one its row. -/
theorem list_elems (b : Fin k1_t1_loop.trips) (qo : PosShare TreeShare) (w : S16x128.Idx → BitVec 32) :
    (bigSep Finset.univ fun r : Fin 128 => ((liV).view.loc (V d cc jj) ↦[{x2 (tr (b16 b) r)}]{qo} w : sProp 𝕄))
      = (listB b).view.loc (V d cc jj) ↦[(listB b).view.set]{qo} w := by
  refine Eq.trans ?_ (pointsTo_entries (Val := Elt F) (V d cc jj) (listB b).view x0 x0_bij qo w).symm
  exact bigSep_congr fun r _ => congrArg (fun s => ((liV).view.loc (V d cc jj) ↦[{s}]{qo} w : sProp 𝕄)) (listB_emb b _ _ rfl).symm

omit [FloatOps F] in
/-- The table read through its slice is the table. -/
theorem srcB_read (f : Buf (Elt F) (A.view.loc (V d cc jj))) (z : S8388608.Idx) :
    (srcB A).view.read (Elt F) f z = A.view.read (Elt F) f z := by
  rw [View.read_apply, View.read_apply]
  have h := srcB_emb A z
  exact congrArg (fun i => _root_.cast (congrArg (Elt F) A.view.elt_eq) (f i)) h

omit [FloatOps F] in
/-- The value that row `r` of gather `b` lands is the one stated. -/
theorem landed (b : Fin k1_t1_loop.trips) (r : Fin 128)
    (f : Buf (Elt F) (A.view.loc (V d cc jj))) (fd : Buf (Elt F) (M.view.loc (V d cc jj))) (w : S16x128.Idx → BitVec 32)
    (row : Fin 8388608) (hrow : row.val = (w (x2 (tr (b16 b) r))).toNat) :
    ∀ i ∈ ({M.view.emb (x1 (tr (b16 b) r))} : Finset (Idx (M.view.loc (V d cc jj)))),
      ((dstB M b).view.slice (S128.rowRect (gathers_S8388608_S128).axis' r)).write (Elt F) fd
          (fun y => (srcB A).view.read (Elt F) f (gathers_S8388608_S128.rowIdx row y)) Finset.univ i
        = M.view.write (Elt F) fd (gathered (A.view.read (Elt F) f) w) Finset.univ i := fun i hi => by
  have hset := dstB_row M b r
  have hi' : i ∈ ((dstB M b).view.slice (S128.rowRect (gathers_S8388608_S128).axis' r)).set := hset ▸ hi
  obtain ⟨y, -, rfl⟩ := Finset.mem_map.mp hi'
  have h1 := View.write_emb_of_mem (Val := Elt F) (v := (dstB M b).view.slice (S128.rowRect (gathers_S8388608_S128).axis' r)) fd
    (fun y => (srcB A).view.read (Elt F) f (gathers_S8388608_S128.rowIdx row y)) (M := Finset.univ) (x := y) (Finset.mem_univ y)
  refine h1.trans ?_
  rw [Finset.mem_singleton.mp hi]
  refine Eq.trans ?_ (View.write_emb_of_mem (Val := Elt F) (v := M.view) fd (gathered (A.view.read (Elt F) f) w) (M := Finset.univ) (Finset.mem_univ (x1 (tr (b16 b) r)))).symm
  refine congrArg (_root_.cast (congrArg (Elt F) M.view.elt_eq.symm)) ?_
  refine (srcB_read d cc jj A f _).trans ?_
  unfold gathered
  congr 1
  funext a
  match a with
  | 0 =>
    refine (Shape.Gathers.rowIdx_axis gathers_S8388608_S128 row y).trans (Fin.ext ?_)
    show row.val = (w (x2 (tr (b16 b) r))).toNat % 8388608
    rw [hrow, Nat.mod_eq_of_lt (hrow ▸ row.isLt)]

/-- THE ISSUE of gather `b`. -/
theorem wp_issue {α : Type} {Q : α → sProp 𝕄} (b : Fin k1_t1_loop.trips) (q qo : PosShare TreeShare)
    (f : Buf (Elt F) (A.view.loc (V d cc jj))) (fd : Buf (Elt F) (M.view.loc (V d cc jj))) (w : S16x128.Idx → BitVec 32)
    (hw : ∀ i, (w i).toNat < 8388608) (N : ℕ)
    (hN : ∀ r, ((dstB M b).slice (S128.rowRect (gathers_S8388608_S128).axis' r) (S128.stride_rowRect _ r)).view.dmaCredit = N)
    {sem : DmaSem sig} {hsrc : (srcB A).view.WordExact} {hr : S8388608.StreamRows 0}
    {hp : (V d cc jj).2.kind = .scVector} {he : EltTy.f32.bits = 32} {hsp : Space.hbm = .hbm ∨ Space.hbm = .shared}
    {hn : S128.numel = S128.size (gathers_S8388608_S128).axis'}
    {k : PUnit → Prog (TpuEff nD τ sig (Elt F) Λ₀ (.scVector cc jj)) α} :
    iprop((bigSep Finset.univ fun r : Fin 128 => given d cc jj M qo fd w (tr (b16 b) r))
        ∗ (A.view.loc (V d cc jj) ↦[A.view.set]{cutB q (b16 b)} f)
        ∗ Transfers.Batch countersEmb (V d cc jj) (.dma sem) (default : HIx 1) N (delivered d cc jj M A q qo f fd w) (b.val * 128) 0)
      ⊢ iprop((Transfers.Batch countersEmb (V d cc jj) (.dma sem) (default : HIx 1) N (delivered d cc jj M A q qo f fd w) ((b.val + 1) * 128) 0
            -∗ wp frame (wpE (defs₀ (F := F)) 𝒱₀ (V d cc jj) none) Set.univ (k ⟨⟩) Q)
          -∗ wp frame (wpE (defs₀ (F := F)) 𝒱₀ (V d cc jj) none) Set.univ
            (SparseCore.enqueueIndirectGather hp (srcB A) (dstB M b) gathers_S8388608_S128 (listB b) hn sem hsrc he hsp hr >>= k) Q) := by
  have hb : b.val < 16 := lt_of_lt_of_eq b.isLt trips1
  have hin : ∀ x, ((listB b).view.read (Elt F) w x).toNat < S8388608.size (gathers_S8388608_S128).axis := fun x => hw _
  have hD : ∀ r : Fin (S128.size (gathers_S8388608_S128).axis'),
      rowDelivery (F := F) (Ix := HIx 1) (Name := ℕ) (U := UU) (Lvl := ℕ) (V d cc jj) (srcB A) (dstB M b) gathers_S8388608_S128 (listB b) hn (by decide) (cutB q (b16 b)) qo f fd w hin r
        ⊢ delivered d cc jj M A q qo f fd w ⟨b.val * 128 + r.val, by have : r.val < 128 := r.isLt; omega⟩ := fun r => by
    have hr' : r.val < 128 := r.isLt
    have hentry : (listB b).view.emb (S128.rowMajor.symm (r.cast hn.symm)) = x2 (tr (b16 b) r) :=
      listB_emb b _ _ (by
        have h := Shape.rowMajor_val_one (S128.rowMajor.symm (r.cast hn.symm))
        rw [Equiv.apply_symm_apply] at h
        show b.val * 128 + r.val = _
        exact congrArg (b.val * 128 + ·) h)
    have hq : cutR q ⟨(b.val * 128 + r.val) / 128, by omega⟩ ⟨(b.val * 128 + r.val) % 128, by omega⟩ = cutR q (b16 b) r := by
      exact congrArg₂ (fun x y => cutR q x y) (Fin.ext (show (b.val * 128 + r.val) / 128 = b.val by omega))
        (Fin.ext (show (b.val * 128 + r.val) % 128 = r.val by omega))
    have e1 : ((dstB M b).view.loc (V d cc jj) ↦[((dstB M b).view.slice (S128.rowRect (gathers_S8388608_S128).axis' r)).set]{fullShare}
          (((dstB M b).view.slice (S128.rowRect (gathers_S8388608_S128).axis' r)).write (Elt F) fd
            (fun i => (srcB A).view.read (Elt F) f (gathers_S8388608_S128.rowIdx (SparseCore.rows ((listB b).view.read (Elt F) w) hn hin r) i)) Finset.univ) : sProp 𝕄)
        = M.view.loc (V d cc jj) ↦[{M.view.emb (x1 (tr (b16 b) r))}]{fullShare} (M.view.write (Elt F) fd (gathered (A.view.read (Elt F) f) w) Finset.univ) :=
      (congrArg (fun s => (M.view.loc (V d cc jj) ↦[s]{fullShare} _ : sProp 𝕄)) (dstB_row M b r)).trans
        (pointsTo_congr (landed d cc jj M A b r f fd w _ (congrArg (fun z => (w z).toNat) hentry)))
    have e2 : ((listB b).view.loc (V d cc jj) ↦[{(listB b).view.emb (S128.rowMajor.symm (r.cast hn.symm))}]{qo} w : sProp 𝕄)
        = (liV).view.loc (V d cc jj) ↦[{x2 (tr (b16 b) r)}]{qo} w :=
      congrArg (fun s => ((liV).view.loc (V d cc jj) ↦[{s}]{qo} w : sProp 𝕄)) hentry
    have e3 : ((srcB A).view.loc (V d cc jj) ↦[(srcB A).view.set]{cutR q (b16 b) r} f : sProp 𝕄)
        = A.view.loc (V d cc jj) ↦[A.view.set]{cutR q ⟨(b.val * 128 + r.val) / 128, by omega⟩ ⟨(b.val * 128 + r.val) % 128, by omega⟩} f :=
      (congrArg (fun s => (A.view.loc (V d cc jj) ↦[s]{cutR q (b16 b) r} f : sProp 𝕄)) (srcB_set A)).trans
        (congrArg (fun s => (A.view.loc (V d cc jj) ↦[A.view.set]{s} f : sProp 𝕄)) hq.symm)
    unfold rowDelivery delivered given
    exact Idealize.SL.BI.sep_mono (Idealize.SL.BI.sep_mono (Entails.of_eq e1) (Entails.of_eq e2)) (Entails.of_eq e3)
  iintro ⟨Hg, Ha, HB⟩ Hk
  unfold given
  ihave Hg' := Transfers.bigSep_sep_out _ _ _ $$ Hg
  icases Hg' with ⟨Hd, Hl⟩
  ihave Hd' := (Entails.of_eq (dst_elems d cc jj M b fd)) $$ Hd
  ihave Hl' := (Entails.of_eq (list_elems d cc jj b qo w)) $$ Hl
  ihave Ha' := (Entails.of_eq (congrArg (fun s => (A.view.loc (V d cc jj) ↦[s]{cutB q (b16 b)} f : sProp 𝕄)) (srcB_set A).symm)) $$ Ha
  iapply (wp_gatherIntoBatch countersEmb 𝒱₀ (V d cc jj) none (default : HIx 1) N hN (by decide)
    (show b.val * 128 + 128 ≤ 2048 by omega) (Nat.zero_le _) hin hD) $$ [Hd' Hl' Ha' HB]
  · isplitl [Ha']; · iexact Ha'
    isplitl [Hd']; · iexact Hd'
    isplitl [Hl']; · iexact Hl'
    iexact HB
  iintro HB
  iapply Hk
  rw [show (b.val + 1) * 128 = b.val * 128 + S128.size (gathers_S8388608_S128).axis' from Nat.succ_mul _ _]
  iexact HB

end Cert.Proof.Issue

end
-- ==== Proof.Loops.lean ====
/-
  THE TILE'S THREE LOOPS, a trip at a time. The first issues two gathers a trip, one from each table, each into its own
  semaphore's batch; the second waits for one gather's credit of each batch a trip; the third replaces sixty-four samples a
  trip by the half of their sum with the other row buffer's.
-/
module

public import proofs.«01_k».proof.Proof.Issue
public import Idealize.ShloMosaic.Lib.Pipeline.Value

@[expose] public section

noncomputable section

namespace Cert.Proof.Loops

open Cert.KernelIdeal Cert.KernelIdeal.Gen Cert.Proof.Setup Cert.Proof.StreamBatch Cert.Proof.Issue

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F
local notation "iV" => (Memref.whole Cert.KernelIdeal.main_v2_scv : Memref Cert.KernelIdeal.sig Kind.scVector Space.hbm Cert.KernelIdeal.S32x16x128 EltTy.i32)
local notation "sV" => (Memref.whole Cert.KernelIdeal.main_v3_scv : Memref Cert.KernelIdeal.sig Kind.scVector Space.hbm Cert.KernelIdeal.S8388608 EltTy.f32)
local notation "eV" => (Memref.whole Cert.KernelIdeal.main_v4_scv : Memref Cert.KernelIdeal.sig Kind.scVector Space.hbm Cert.KernelIdeal.S8388608 EltTy.f32)
local notation "oV" => (Memref.whole Cert.KernelIdeal.main_v5_scv : Memref Cert.KernelIdeal.sig Kind.scVector Space.hbm Cert.KernelIdeal.S65536 EltTy.f32)
local notation "liV" => (Memref.whole Cert.KernelIdeal.cc1_scratch0 : Memref Cert.KernelIdeal.sig Kind.scVector Space.vmem Cert.KernelIdeal.S16x128 EltTy.i32)
local notation "gsV" => (Memref.whole Cert.KernelIdeal.cc1_scratch1 : Memref Cert.KernelIdeal.sig Kind.scVector Space.vmem Cert.KernelIdeal.S2048 EltTy.f32)
local notation "geV" => (Memref.whole Cert.KernelIdeal.cc1_scratch2 : Memref Cert.KernelIdeal.sig Kind.scVector Space.vmem Cert.KernelIdeal.S2048 EltTy.f32)

variable (d : Dev nD) (L : grid1.Coords)

abbrev cV : Fin τ.nSC := (L 0).castLE hcore1
abbrev jV : Fin τ.nSub := (L 1).castLE hsub1

/-- The body's loops at the buffers and semaphores that the program passes. -/
abbrev body1 : Fin k1_t1_loop.trips → Unit → Prog (TpuEff nD τ sig (Elt F) Λ₀ (.scVector (cV L) (jV L))) Unit :=
  k1_t1_body L iV (Memref.isWhole_whole _) sV (Memref.isWhole_whole _) eV (Memref.isWhole_whole _) oV (Memref.isWhole_whole _)
    liV (Memref.isWhole_whole _) gsV (Memref.isWhole_whole _) geV (Memref.isWhole_whole _) cc1_scratch3 cc1_scratch4 cc1_scoped0 cc1_scoped1
abbrev body2 : Fin k1_t2_loop.trips → Unit → Prog (TpuEff nD τ sig (Elt F) Λ₀ (.scVector (cV L) (jV L))) Unit :=
  k1_t2_body L iV (Memref.isWhole_whole _) sV (Memref.isWhole_whole _) eV (Memref.isWhole_whole _) oV (Memref.isWhole_whole _)
    liV (Memref.isWhole_whole _) gsV (Memref.isWhole_whole _) geV (Memref.isWhole_whole _) cc1_scratch3 cc1_scratch4 cc1_scoped0 cc1_scoped1
abbrev body3 : Fin k1_t3_loop.trips → Unit → Prog (TpuEff nD τ sig (Elt F) Λ₀ (.scVector (cV L) (jV L))) Unit :=
  k1_t3_body L iV (Memref.isWhole_whole _) sV (Memref.isWhole_whole _) eV (Memref.isWhole_whole _) oV (Memref.isWhole_whole _)
    liV (Memref.isWhole_whole _) gsV (Memref.isWhole_whole _) geV (Memref.isWhole_whole _) cc1_scratch3 cc1_scratch4 cc1_scoped0 cc1_scoped1

/-- The credit of one element's transfer. -/
abbrev N1 : ℕ := 32

/-- The batch of one semaphore. -/
abbrev batchS (q : PosShare TreeShare) (f : Buf (Elt F) ((sV).view.loc (V d (cV L) (jV L)))) (fd : Buf (Elt F) ((gsV).view.loc (V d (cV L) (jV L))))
    (w : S16x128.Idx → BitVec 32) (j u : ℕ) : sProp 𝕄 :=
  Transfers.Batch countersEmb (V d (cV L) (jV L)) (.dma cc1_scratch3.sem) (default : HIx 1) N1 (delivered d (cV L) (jV L) gsV sV q fullShare.left f fd w) j u
abbrev batchE (q : PosShare TreeShare) (f : Buf (Elt F) ((eV).view.loc (V d (cV L) (jV L)))) (fd : Buf (Elt F) ((geV).view.loc (V d (cV L) (jV L))))
    (w : S16x128.Idx → BitVec 32) (j u : ℕ) : sProp 𝕄 :=
  Transfers.Batch countersEmb (V d (cV L) (jV L)) (.dma cc1_scratch4.sem) (default : HIx 1) N1 (delivered d (cV L) (jV L) geV eV q fullShare.right f fd w) j u

/-! ## The issue loop -/

/-- Before trip `k`: the first `k` gathers of each batch issued, and what the others will take. -/
def inv1 (q : PosShare TreeShare) (fs : Buf (Elt F) ((sV).view.loc (V d (cV L) (jV L)))) (fe : Buf (Elt F) ((eV).view.loc (V d (cV L) (jV L))))
    (gs : Buf (Elt F) ((gsV).view.loc (V d (cV L) (jV L)))) (ge : Buf (Elt F) ((geV).view.loc (V d (cV L) (jV L)))) (w : S16x128.Idx → BitVec 32) (k : ℕ) (_ : Unit) : sProp 𝕄 :=
  iprop(batchS d L q fs gs w (k * 128) 0 ∗ batchE d L q fe ge w (k * 128) 0
    ∗ bigSep (Transfers.pending (k * 128)) (given d (cV L) (jV L) gsV fullShare.left gs w)
    ∗ bigSep (Transfers.pending (k * 128)) (given d (cV L) (jV L) geV fullShare.right ge w)
    ∗ bigSep (Transfers.pending k) (fun b : Fin 16 => (sV).view.loc (V d (cV L) (jV L)) ↦[(sV).view.set]{cutB q b} fs)
    ∗ bigSep (Transfers.pending k) (fun b : Fin 16 => (eV).view.loc (V d (cV L) (jV L)) ↦[(eV).view.set]{cutB q b} fe))

/-- A trip of the issue loop. -/
theorem step1 (q : PosShare TreeShare) (fs : Buf (Elt F) ((sV).view.loc (V d (cV L) (jV L)))) (fe : Buf (Elt F) ((eV).view.loc (V d (cV L) (jV L))))
    (gs : Buf (Elt F) ((gsV).view.loc (V d (cV L) (jV L)))) (ge : Buf (Elt F) ((geV).view.loc (V d (cV L) (jV L)))) (w : S16x128.Idx → BitVec 32)
    (hw : ∀ i, (w i).toNat < 8388608) (k : Fin k1_t1_loop.trips) (acc : Unit) :
    inv1 d L q fs fe gs ge w k.val acc
      ⊢ wp frame (wpE (defs₀ (F := F)) 𝒱₀ (V d (cV L) (jV L)) none) Set.univ (body1 L k acc) (inv1 d L q fs fe gs ge w (k.val + 1)) := by
  have hk : k.val < 16 := lt_of_lt_of_eq k.isLt trips1
  unfold inv1 body1 k1_t1_body
  iintro ⟨HS, HE, Hgs, Hge, Hs, He⟩
  ihave Hgs' := (Entails.of_eq (bigSep_pending_block (given d (cV L) (jV L) gsV fullShare.left gs w) (k.val * 128) 128 (by omega))) $$ Hgs
  ihave Hge' := (Entails.of_eq (bigSep_pending_block (given d (cV L) (jV L) geV fullShare.right ge w) (k.val * 128) 128 (by omega))) $$ Hge
  ihave Hs' := (Entails.of_eq (Transfers.bigSep_pending_step (fun b : Fin 16 => ((sV).view.loc (V d (cV L) (jV L)) ↦[(sV).view.set]{cutB q b} fs : sProp 𝕄)) k.val hk)) $$ Hs
  ihave He' := (Entails.of_eq (Transfers.bigSep_pending_step (fun b : Fin 16 => ((eV).view.loc (V d (cV L) (jV L)) ↦[(eV).view.set]{cutB q b} fe : sProp 𝕄)) k.val hk)) $$ He
  icases Hgs' with ⟨Hg1, Hgs⟩
  icases Hge' with ⟨Hg2, Hge⟩
  icases Hs' with ⟨Hs1, Hs⟩
  icases He' with ⟨He1, He⟩
  iapply (wp_issue d (cV L) (jV L) gsV sV k q fullShare.left fs gs w hw N1 (fun _ => rfl)) $$ [Hg1 Hs1 HS]
  · isplitl [Hg1]; · iexact Hg1
    isplitl [Hs1]; · iexact Hs1
    iexact HS
  iintro HS
  iapply (wp_issue d (cV L) (jV L) geV eV k q fullShare.right fe ge w hw N1 (fun _ => rfl)) $$ [Hg2 He1 HE]
  · isplitl [Hg2]; · iexact Hg2
    isplitl [He1]; · iexact He1
    iexact HE
  iintro HE
  rw [show (k.val + 1) * 128 = k.val * 128 + 128 from Nat.succ_mul _ _]
  sl_step
  isplitl [HS]; · iexact HS
  isplitl [HE]; · iexact HE
  isplitl [Hgs]; · iexact Hgs
  isplitl [Hge]; · iexact Hge
  isplitl [Hs]; · iexact Hs
  iexact He

/-! ## The wait loop -/

/-- The second loop makes 16 trips. -/
theorem trips2 : k1_t2_loop.trips = 16 := by decide

/-- Before trip `k`: every transfer issued, the credit of the first `k` gathers of each batch consumed. -/
def inv2 (q : PosShare TreeShare) (fs : Buf (Elt F) ((sV).view.loc (V d (cV L) (jV L)))) (fe : Buf (Elt F) ((eV).view.loc (V d (cV L) (jV L))))
    (gs : Buf (Elt F) ((gsV).view.loc (V d (cV L) (jV L)))) (ge : Buf (Elt F) ((geV).view.loc (V d (cV L) (jV L)))) (w : S16x128.Idx → BitVec 32)
    (O : CellTallies nD τ sig (HIx 1)) (W : Waits sig (HIx 1)) (k : ℕ) (_ : Unit) : sProp 𝕄 :=
  iprop(Transfers.MayWaits (V d (cV L) (jV L)) (default : HIx 1) O
    ∗ batchS d L q fs gs w 2048 (k * (128 * N1)) ∗ batchE d L q fe ge w 2048 (k * (128 * N1))
    ∗ ∃ W', ⌜∀ p ∈ W', p ∈ W ∨ p.2 = none⌝ ∗ owes (V d (cV L) (jV L)) O W')

/-- A trip of the wait loop. -/
theorem step2 (q : PosShare TreeShare) (fs : Buf (Elt F) ((sV).view.loc (V d (cV L) (jV L)))) (fe : Buf (Elt F) ((eV).view.loc (V d (cV L) (jV L))))
    (gs : Buf (Elt F) ((gsV).view.loc (V d (cV L) (jV L)))) (ge : Buf (Elt F) ((geV).view.loc (V d (cV L) (jV L)))) (w : S16x128.Idx → BitVec 32)
    (O : CellTallies nD τ sig (HIx 1)) (W : Waits sig (HIx 1)) (k : Fin k1_t2_loop.trips) (acc : Unit) :
    inv2 d L q fs fe gs ge w O W k.val acc
      ⊢ wp frame (wpE (defs₀ (F := F)) 𝒱₀ (V d (cV L) (jV L)) none) Set.univ (body2 L k acc) (inv2 d L q fs fe gs ge w O W (k.val + 1)) := by
  have hk : k.val < 16 := lt_of_lt_of_eq k.isLt trips2
  unfold inv2 body2 k1_t2_body
  iintro ⟨#Hmw, HS, HE, %W', %hW', HO⟩
  rw [show (k.val + 1) * (128 * N1) = k.val * (128 * N1) + 128 * N1 from Nat.succ_mul _ _]
  iapply (Transfers.wp_waitBatchMulO countersEmb 𝒱₀ (V d (cV L) (jV L)) none (default : HIx 1) (N := N1) 128 (by rfl)
    (D := delivered d (cV L) (jV L) gsV sV q fullShare.left fs gs w) (j := 2048) (u := k.val * (128 * N1)) (by unfold N1; omega)) $$ [HS HO]
  · isplitl [HS]; · iexact HS
    isplitl [HO]; · iexact HO
    iapply (Transfers.MayWaits.elim (SemLoc.dma cc1_scratch3.sem)) $$ Hmw
  iintro ⟨HS, HO⟩
  iapply (Transfers.wp_waitBatchMulO countersEmb 𝒱₀ (V d (cV L) (jV L)) none (default : HIx 1) (N := N1) 128 (by rfl)
    (D := delivered d (cV L) (jV L) geV eV q fullShare.right fe ge w) (j := 2048) (u := k.val * (128 * N1)) (by unfold N1; omega)) $$ [HE HO]
  · isplitl [HE]; · iexact HE
    isplitl [HO]; · iexact HO
    iapply (Transfers.MayWaits.elim (SemLoc.dma cc1_scratch4.sem)) $$ Hmw
  iintro ⟨HE, HO⟩
  iapply (Entails.of_eq (wp_ret _ _ Set.univ PUnit.unit _).symm)
  imodintro
  isplitr; · iexact Hmw
  isplitl [HS]; · iexact HS
  isplitl [HE]; · iexact HE
  iexists _
  isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The averaging loop -/

/-- The third loop makes 32 trips. -/
theorem trips3 : k1_t3_loop.trips = 32 := by decide

/-- The half of a sum, as the vector unit computes it. -/
def half (a b : F .f32) : F .f32 := FloatOps.mulf (FloatOps.addf a b) (Scalar.ofBits .f32 0x3F000000#32)

/-- The row buffer before trip `k`: the first `64 k` samples replaced. -/
def part (gs ge : S2048.Idx → Elt F .f32) (k : ℕ) : S2048.Idx → Elt F .f32 :=
  fun y => if (y 0).val < 64 * k then half (gs y) (ge y) else gs y

def inv3 (gs ge : S2048.Idx → Elt F .f32) (k : ℕ) (_ : Unit) : sProp 𝕄 :=
  iprop(((gsV).view.loc (V d (cV L) (jV L)) ↦{fullShare} part gs ge k) ∗ ((geV).view.loc (V d (cV L) (jV L)) ↦{fullShare} ge))

omit [FloatOps F] in
/-- The starts' buffer, spelt as the body slices it. -/
theorem pts_gs (f : Buf (Elt F) ((V d (cV L) (jV L)).loc cc1_scratch1)) :
    ((gsV).view.loc (V d (cV L) (jV L)) ↦{fullShare} f : sProp 𝕄) = (V d (cV L) (jV L)).loc cc1_scratch1 ↦{fullShare} f := rfl
omit [FloatOps F] in
/-- The ends' buffer, spelt as the body slices it. -/
theorem pts_ge (f : Buf (Elt F) ((V d (cV L) (jV L)).loc cc1_scratch2)) :
    ((geV).view.loc (V d (cV L) (jV L)) ↦{fullShare} f : sProp 𝕄) = (V d (cV L) (jV L)).loc cc1_scratch2 ↦{fullShare} f := rfl

/-- The sixteen samples of a trip's store `r`. -/
abbrev piece (k : Fin k1_t3_loop.trips) (r : Fin 4) : Rect S2048 :=
  Rect.unit (s := S2048) (k1_off6 k (BitVec.ofNat 32 r.val)) S16.size (k1_off6_inb k r)

/-- Where a lane of a piece lies in the buffer. -/
theorem piece_emb (k : Fin k1_t3_loop.trips) (r : Fin 4) (x : S16.Idx) :
    ((piece k r).emb x 0).val = 64 * k.val + 16 * r.val + (x 0).val := by
  have h : (k1_off6 k (BitVec.ofNat 32 r.val)) 0 = 64 * k.val + 16 * r.val := congrFun (k1_off6_eq k r) 0
  show (k1_off6 k (BitVec.ofNat 32 r.val)) 0 + 1 * (x 0).val = _
  omega

/-- What a trip stores at piece `r` is the row buffer after the trip, there. -/
theorem piece_val (gs ge : S2048.Idx → Elt F .f32) (k : Fin k1_t3_loop.trips) (r : Fin 4) (x : S16.Idx) :
    half ((gsV).view.readAt (Elt F) (piece k r).toLoadRect (part gs ge k.val) x) ((geV).view.readAt (Elt F) (piece k r).toLoadRect ge x)
      = part gs ge (k.val + 1) ((piece k r).emb x) := by
  have h := piece_emb k r x
  have hx : (x 0).val < 16 := (x 0).isLt
  have hr := r.isLt
  show half (part gs ge k.val ((piece k r).emb x)) (ge ((piece k r).emb x)) = _
  unfold part
  rw [if_neg (by omega), if_pos (by omega)]

/-- Each store's payload is the half of the sum of what the two loads read, sample by sample. -/
theorem pay3_half (a b : S16.Idx → F .f32) (x : S16.Idx) : k1_pay3 a b x = half (a x) (b x) := by
  show shapeCast S16 (mulf (addf (shapeCast S16 a shapeCasts_S16_S16) (shapeCast S16 b shapeCasts_S16_S16)) _) shapeCasts_S16_S16 x = _
  rw [shapeCast_self, shapeCast_self, shapeCast_self]; rfl
/-- The next piece is half the sum, too. -/
theorem pay4_half (a b : S16.Idx → F .f32) (x : S16.Idx) : k1_pay4 a b x = half (a x) (b x) := pay3_half a b x
/-- So is the next. -/
theorem pay2_half (a b : S16.Idx → F .f32) (x : S16.Idx) : k1_pay2 a b x = half (a x) (b x) := pay3_half a b x
/-- And so is the last. -/
theorem pay15_half (a b : S16.Idx → F .f32) (x : S16.Idx) : k1_pay1 (k1_pay5 a b) x = half (a x) (b x) := pay3_half a b x

/-- The four stores of a trip, over the buffer before it, leave the buffer after it. -/
theorem part_succ (gs ge : S2048.Idx → Elt F .f32) (k : Fin k1_t3_loop.trips)
    (w0 w1 w2 w3 : S16.Idx → Elt F .f32)
    (h0 : ∀ x, w0 x = part gs ge (k.val + 1) ((piece k 0).emb x)) (h1 : ∀ x, w1 x = part gs ge (k.val + 1) ((piece k 1).emb x))
    (h2 : ∀ x, w2 x = part gs ge (k.val + 1) ((piece k 2).emb x)) (h3 : ∀ x, w3 x = part gs ge (k.val + 1) ((piece k 3).emb x)) :
    (gsV).view.writes (Elt F) (part gs ge k.val) [⟨piece k 3, w3⟩, ⟨piece k 2, w2⟩, ⟨piece k 1, w1⟩, ⟨piece k 0, w0⟩]
      = part gs ge (k.val + 1) := by
  have hk : k.val < 32 := lt_of_lt_of_eq k.isLt trips3
  have hset : ∀ (r : Fin 4) (y : S2048.Idx), y ∈ (piece k r).set ↔ 64 * k.val + 16 * r.val ≤ (y 0).val ∧ (y 0).val < 64 * k.val + 16 * r.val + 16 := by
    intro r y
    constructor
    · intro hy
      obtain ⟨x, hx'⟩ := (piece k r).exists_idx_of_mem hy
      have : (y 0).val = _ := (congrArg (fun z : S2048.Idx => (z 0).val) hx'.symm).trans (piece_emb k r x)
      have hx : (x 0).val < 16 := (x 0).isLt
      omega
    · intro hy
      refine ((piece k r).emb_eq_of_coords (fun | 0 => ⟨(y 0).val - (64 * k.val + 16 * r.val), by show _ < 16; omega⟩) y ?_) ▸ (piece k r).idx_mem _
      intro a
      have h : (k1_off6 k (BitVec.ofNat 32 r.val)) 0 = 64 * k.val + 16 * r.val := congrFun (k1_off6_eq k r) 0
      match a with
      | 0 =>
        show (y 0).val = (k1_off6 k (BitVec.ofNat 32 r.val)) 0 + 1 * ((y 0).val - (64 * k.val + 16 * r.val))
        omega
  funext y
  refine Eq.trans (congrFun (View.read_whole (Val := Elt F) (b := cc1_scratch1) _).symm y) ?_
  by_cases hy : 64 * k.val ≤ (y 0).val ∧ (y 0).val < 64 * k.val + 64
  · refine View.read_writes_apply_of_pieces _ _ (part gs ge (k.val + 1)) _ ?_ y ?_
    · intro p hp
      simp only [List.mem_cons, List.not_mem_nil, or_false] at hp
      rcases hp with rfl | rfl | rfl | rfl
      · exact h3
      · exact h2
      · exact h1
      · exact h0
    · have hc : ((y 0).val - 64 * k.val) / 16 = 0 ∨ ((y 0).val - 64 * k.val) / 16 = 1 ∨ ((y 0).val - 64 * k.val) / 16 = 2 ∨ ((y 0).val - 64 * k.val) / 16 = 3 := by omega
      rcases hc with h | h | h | h
      · exact ⟨⟨piece k 0, w0⟩, by simp, (hset 0 y).2 (by show 64 * k.val + 16 * 0 ≤ _ ∧ _ < 64 * k.val + 16 * 0 + 16; omega)⟩
      · exact ⟨⟨piece k 1, w1⟩, by simp, (hset 1 y).2 (by show 64 * k.val + 16 * 1 ≤ _ ∧ _ < 64 * k.val + 16 * 1 + 16; omega)⟩
      · exact ⟨⟨piece k 2, w2⟩, by simp, (hset 2 y).2 (by show 64 * k.val + 16 * 2 ≤ _ ∧ _ < 64 * k.val + 16 * 2 + 16; omega)⟩
      · exact ⟨⟨piece k 3, w3⟩, by simp, (hset 3 y).2 (by show 64 * k.val + 16 * 3 ≤ _ ∧ _ < 64 * k.val + 16 * 3 + 16; omega)⟩
  · rw [View.read_writes_apply_of_forall_not_mem]
    · show part gs ge k.val y = _
      unfold part
      by_cases hlt : (y 0).val < 64 * k.val
      · rw [if_pos hlt, if_pos (by omega)]
      · rw [if_neg hlt, if_neg (by omega)]
    · intro p hp hm
      simp only [List.mem_cons, List.not_mem_nil, or_false] at hp
      rcases hp with rfl | rfl | rfl | rfl
      · have := (hset 3 y).1 hm; have h3 : ((3 : Fin 4) : ℕ) = 3 := rfl; omega
      · have := (hset 2 y).1 hm; have h3 : ((2 : Fin 4) : ℕ) = 2 := rfl; omega
      · have := (hset 1 y).1 hm; have h3 : ((1 : Fin 4) : ℕ) = 1 := rfl; omega
      · have := (hset 0 y).1 hm; have h3 : ((0 : Fin 4) : ℕ) = 0 := rfl; omega

/-- A trip of the averaging loop. -/
theorem step3 (gs ge : S2048.Idx → Elt F .f32) (k : Fin k1_t3_loop.trips) (acc : Unit) :
    inv3 d L gs ge k.val acc
      ⊢ wp frame (wpE (defs₀ (F := F)) 𝒱₀ (V d (cV L) (jV L)) none) Set.univ (body3 L k acc) (inv3 d L gs ge (k.val + 1)) := by
  have hk : k.val < 32 := lt_of_lt_of_eq k.isLt trips3
  unfold inv3 body3 k1_t3_body
  simp only [k1_part1_eq_skeleton, k1_part1_skel]
  iintro ⟨Hs, He⟩
  ihave Hs' := (Entails.of_eq (pts_gs d L _).symm) $$ Hs
  ihave He' := (Entails.of_eq (pts_ge d L _).symm) $$ He
  sl_exec
  sl_step
  unfold step3.sl.v58 step3.sl.v42 step3.sl.v26
  rw [← part_succ gs ge k _ _ _ _ (fun x => ?_) (fun x => ?_) (fun x => ?_) (fun x => ?_)]
  · isplitl [Hs']
    · iexact Hs'
    · iexact He'
  · exact (pay3_half _ _ x).trans (piece_val gs ge k 0 x)
  · exact (pay4_half _ _ x).trans (piece_val gs ge k 1 x)
  · exact (pay15_half _ _ x).trans (piece_val gs ge k 2 x)
  · exact (pay2_half _ _ x).trans (piece_val gs ge k 3 x)

end Cert.Proof.Loops

end
-- ==== Proof.Gather.lean ====
/-
  THE TILE'S TWO STREAMS AS A WHOLE. A tile holds its list of 2048 words, its share of each table, and its two row buffers. It
  gives all of it to the sixteen gathers of each table, waits for them all, and takes it back with each row buffer at the
  table's values at the list's words.
-/
module

public import proofs.«01_k».proof.Proof.Loops

@[expose] public section

noncomputable section

namespace Cert.Proof.Gather

open Cert.KernelIdeal Cert.KernelIdeal.Gen Cert.Proof.Setup Cert.Proof.StreamBatch Cert.Proof.Issue Cert.Proof.Loops

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F
local notation "sV" => (Memref.whole Cert.KernelIdeal.main_v3_scv : Memref Cert.KernelIdeal.sig Kind.scVector Space.hbm Cert.KernelIdeal.S8388608 EltTy.f32)
local notation "eV" => (Memref.whole Cert.KernelIdeal.main_v4_scv : Memref Cert.KernelIdeal.sig Kind.scVector Space.hbm Cert.KernelIdeal.S8388608 EltTy.f32)
local notation "liV" => (Memref.whole Cert.KernelIdeal.cc1_scratch0 : Memref Cert.KernelIdeal.sig Kind.scVector Space.vmem Cert.KernelIdeal.S16x128 EltTy.i32)
local notation "gsV" => (Memref.whole Cert.KernelIdeal.cc1_scratch1 : Memref Cert.KernelIdeal.sig Kind.scVector Space.vmem Cert.KernelIdeal.S2048 EltTy.f32)
local notation "geV" => (Memref.whole Cert.KernelIdeal.cc1_scratch2 : Memref Cert.KernelIdeal.sig Kind.scVector Space.vmem Cert.KernelIdeal.S2048 EltTy.f32)

section Deal

variable (d : Dev nD) (cc : Fin τ.nSC) (jj : Fin τ.nSub)
variable (M : Memref sig .scVector .vmem S2048 .f32) (A : Memref sig .scVector .hbm S8388608 .f32)

omit [FloatOps F] in
/-- A share of the list, element by element in the order of the transfers. -/
theorem list_cut (qo : PosShare TreeShare) (w : S16x128.Idx → BitVec 32) :
    ((liV).view.loc (V d cc jj) ↦[Finset.univ]{qo} (w : Buf (Elt F) ((liV).view.loc (V d cc jj))) : sProp 𝕄)
      = bigSep Finset.univ fun t => (liV).view.loc (V d cc jj) ↦[{x2 t}]{qo} (w : Buf (Elt F) ((liV).view.loc (V d cc jj))) := by
  have h := pointsTo_entries (Val := Elt F) (Ix := HIx 1) (Name := ℕ) (U := UU) (Lvl := ℕ) (c := V d cc jj) (liV).view x2 x2_bij qo w
  rw [show (liV).view.set = Finset.univ from View.set_whole _] at h
  exact h

omit [FloatOps F] in
/-- A row buffer, element by element in the order of the transfers. -/
theorem row_cut (hM : M.view.set = Finset.univ) (fd : Buf (Elt F) (M.view.loc (V d cc jj))) :
    (M.view.loc (V d cc jj) ↦[Finset.univ]{fullShare} fd : sProp 𝕄)
      = bigSep Finset.univ fun t => M.view.loc (V d cc jj) ↦[{M.view.emb (x1 t)}]{fullShare} fd := by
  have h := pointsTo_entries (Val := Elt F) (Ix := HIx 1) (Name := ℕ) (U := UU) (Lvl := ℕ) (c := V d cc jj) M.view x1 x1_bij fullShare fd
  rw [hM] at h
  exact h

omit [FloatOps F] in
/-- A row buffer and a share of the list are what the 2048 transfers take. -/
theorem given_all (hM : M.view.set = Finset.univ) (qo : PosShare TreeShare) (fd : Buf (Elt F) (M.view.loc (V d cc jj))) (w : S16x128.Idx → BitVec 32) :
    (bigSep Finset.univ (given d cc jj M qo fd w) : sProp 𝕄)
      = iprop((M.view.loc (V d cc jj) ↦[Finset.univ]{fullShare} fd)
          ∗ ((liV).view.loc (V d cc jj) ↦[Finset.univ]{qo} (w : Buf (Elt F) ((liV).view.loc (V d cc jj))))) := by
  rw [row_cut d cc jj M hM, list_cut]
  exact BI.bigSep_sep _ _ _

omit [FloatOps F] in
/-- A share, cut for the sixteen gathers. -/
theorem cutB_all {ℓ : Loc nD τ sig} (I : Finset (Idx ℓ)) (q : PosShare TreeShare) (f : Buf (Elt F) ℓ) :
    (ℓ ↦[I]{q} f : sProp 𝕄) = bigSep Finset.univ fun b : Fin 16 => ℓ ↦[I]{cutB q b} f := by
  have h := pointsTo_piecesOf (Val := Elt F) (Ix := HIx 1) (Name := ℕ) (U := UU) (Lvl := ℕ) I f (o := 16) (by decide) q
  exact h

omit [FloatOps F] in
/-- A share, cut for the 2048 transfers. -/
theorem cutR_all {ℓ : Loc nD τ sig} (I : Finset (Idx ℓ)) (q : PosShare TreeShare) (f : Buf (Elt F) ℓ) :
    (ℓ ↦[I]{q} f : sProp 𝕄) = bigSep Finset.univ fun b : Fin 16 => bigSep Finset.univ fun r : Fin 128 => ℓ ↦[I]{cutR q b r} f := by
  rw [cutB_all]
  refine BI.bigSep_congr fun b _ => ?_
  have h := pointsTo_piecesOf (Val := Elt F) (Ix := HIx 1) (Name := ℕ) (U := UU) (Lvl := ℕ) I f (o := 128) (by decide) (cutB q b)
  exact h

omit [FloatOps F] in
/-- A table's share is the 2048 transfers'. -/
theorem table_cut (q : PosShare TreeShare) (f : Buf (Elt F) (A.view.loc (V d cc jj))) :
    (A.view.loc (V d cc jj) ↦[A.view.set]{q} f : sProp 𝕄)
      = bigSep Finset.univ fun t : Fin 2048 =>
          A.view.loc (V d cc jj) ↦[A.view.set]{cutR q ⟨t.val / 128, by have := t.isLt; omega⟩ ⟨t.val % 128, Nat.mod_lt _ (by decide)⟩} f := by
  refine Eq.trans ?_ (bigSep_blocks 16 128 fun t : Fin (16 * 128) =>
    (A.view.loc (V d cc jj) ↦[A.view.set]{cutR q ⟨t.val / 128, by have := t.isLt; omega⟩ ⟨t.val % 128, Nat.mod_lt _ (by decide)⟩} f : sProp 𝕄)).symm
  refine (cutR_all (ℓ := A.view.loc (V d cc jj)) A.view.set q f).trans (BI.bigSep_congr fun b _ => BI.bigSep_congr fun r _ => ?_)
  have hr := r.isLt
  have e1 : (⟨(b.val * 128 + r.val) / 128, by have := b.isLt; omega⟩ : Fin 16) = b := Fin.ext (by show (b.val * 128 + r.val) / 128 = b.val; omega)
  have e2 : (⟨(b.val * 128 + r.val) % 128, Nat.mod_lt _ (by decide)⟩ : Fin 128) = r := Fin.ext (by show (b.val * 128 + r.val) % 128 = r.val; omega)
  show _ = (A.view.loc (V d cc jj) ↦[A.view.set]{cutR q ⟨(b.val * 128 + r.val) / 128, _⟩ ⟨(b.val * 128 + r.val) % 128, _⟩} f : sProp 𝕄)
  rw [e1, e2]

/-- What the 2048 transfers deliver together: the row buffer gathered, the list's share, the table's share. -/
theorem delivered_all (hM : M.view.set = Finset.univ) (q qo : PosShare TreeShare) (f : Buf (Elt F) (A.view.loc (V d cc jj)))
    (fd : Buf (Elt F) (M.view.loc (V d cc jj))) (w : S16x128.Idx → BitVec 32) :
    (bigSep Finset.univ (delivered d cc jj M A q qo f fd w) : sProp 𝕄)
      = iprop(((M.view.loc (V d cc jj) ↦[Finset.univ]{fullShare} (M.view.write (Elt F) fd (gathered (A.view.read (Elt F) f) w) Finset.univ))
          ∗ ((liV).view.loc (V d cc jj) ↦[Finset.univ]{qo} (w : Buf (Elt F) ((liV).view.loc (V d cc jj)))))
          ∗ (A.view.loc (V d cc jj) ↦[A.view.set]{q} f)) := by
  rw [← given_all d cc jj M hM, table_cut]
  exact BI.bigSep_sep _ _ _

end Deal

variable (d : Dev nD) (L : grid1.Coords)

/-- The tile's list, row buffers and tables as the streams use them. -/
abbrev listPts (w : S16x128.Idx → BitVec 32) : sProp 𝕄 :=
  (liV).view.loc (V d (cV L) (jV L)) ↦{fullShare} (w : Buf (Elt F) ((liV).view.loc (V d (cV L) (jV L))))

/-- The issue loop and the wait loop: every transfer of both streams issued and waited for, each row buffer at its table's values
    at the list's words, the rest as it was. -/
theorem wp_streams {α : Type} {kk : Unit → Prog (TpuEff nD τ sig (Elt F) Λ₀ (.scVector (cV L) (jV L))) α} {Q : α → sProp 𝕄}
    (q : PosShare TreeShare) (fs : Buf (Elt F) ((sV).view.loc (V d (cV L) (jV L)))) (fe : Buf (Elt F) ((eV).view.loc (V d (cV L) (jV L))))
    (gs : Buf (Elt F) ((gsV).view.loc (V d (cV L) (jV L)))) (ge : Buf (Elt F) ((geV).view.loc (V d (cV L) (jV L)))) (w : S16x128.Idx → BitVec 32)
    (hw : ∀ i, (w i).toNat < 8388608) (O : CellTallies nD τ sig (HIx 1)) (W : Waits sig (HIx 1)) :
    iprop(Transfers.MayWaits (V d (cV L) (jV L)) (default : HIx 1) O
        ∗ (listPts d L w ∗ ((gsV).view.loc (V d (cV L) (jV L)) ↦{fullShare} gs) ∗ ((geV).view.loc (V d (cV L) (jV L)) ↦{fullShare} ge)
          ∗ ((sV).view.loc (V d (cV L) (jV L)) ↦{q} fs) ∗ ((eV).view.loc (V d (cV L) (jV L)) ↦{q} fe))
        ∗ semVal (V d (cV L) (jV L), .dma cc1_scratch3.sem) 0 ∗ semVal (V d (cV L) (jV L), .dma cc1_scratch4.sem) 0
        ∗ owes (V d (cV L) (jV L)) O W)
      ⊢ iprop((iprop((listPts d L w ∗ ((gsV).view.loc (V d (cV L) (jV L)) ↦{fullShare} gathered fs w) ∗ ((geV).view.loc (V d (cV L) (jV L)) ↦{fullShare} gathered fe w)
          ∗ ((sV).view.loc (V d (cV L) (jV L)) ↦{q} fs) ∗ ((eV).view.loc (V d (cV L) (jV L)) ↦{q} fe))
        ∗ semVal (V d (cV L) (jV L), .dma cc1_scratch3.sem) 0 ∗ semVal (V d (cV L) (jV L), .dma cc1_scratch4.sem) 0
        ∗ ∃ W', ⌜∀ p ∈ W', p ∈ W ∨ p.2 = none⌝ ∗ owes (V d (cV L) (jV L)) O W')
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (Scf.Loop.for k1_t1_loop k1_t1_ok ⟨⟩ (body1 L) >>= fun _ => Scf.Loop.for k1_t2_loop k1_t2_ok ⟨⟩ (body2 L) >>= kk) Q) := by
  iintro ⟨#Hmw, ⟨Hw, Hgs, Hge, Hs, He⟩, HvS, HvE, HO⟩ Hk
  -- the two batches, and each stream's half of the list
  imod (Transfers.batch_alloc' countersEmb (c := V d (cV L) (jV L)) (default : HIx 1) N1 (delivered d (cV L) (jV L) gsV sV q fullShare.left fs gs w) (E := Set.univ)) $$ HvS with HS
  imod (Transfers.batch_alloc' countersEmb (c := V d (cV L) (jV L)) (default : HIx 1) N1 (delivered d (cV L) (jV L) geV eV q fullShare.right fe ge w) (E := Set.univ)) $$ HvE with HE
  ihave Hw2 := (pointsTo_share (PosShare.mem_left_op_right fullShare)).1 $$ Hw
  icases Hw2 with ⟨Hwl, Hwr⟩
  ihave HgS := (Entails.of_eq (given_all (F := F) d (cV L) (jV L) gsV (View.set_whole _) fullShare.left gs w).symm) $$ [Hgs Hwl]
  · isplitl [Hgs] <;> iassumption
  ihave HgE := (Entails.of_eq (given_all (F := F) d (cV L) (jV L) geV (View.set_whole _) fullShare.right ge w).symm) $$ [Hge Hwr]
  · isplitl [Hge] <;> iassumption
  ihave Hs16 := (Entails.of_eq ((congrArg (fun I => ((sV).view.loc (V d (cV L) (jV L)) ↦[I]{q} fs : sProp 𝕄)) (View.set_whole main_v3_scv).symm).trans
    (cutB_all (ℓ := (sV).view.loc (V d (cV L) (jV L))) (sV).view.set q fs))) $$ Hs
  ihave He16 := (Entails.of_eq ((congrArg (fun I => ((eV).view.loc (V d (cV L) (jV L)) ↦[I]{q} fe : sProp 𝕄)) (View.set_whole main_v4_scv).symm).trans
    (cutB_all (ℓ := (eV).view.loc (V d (cV L) (jV L))) (eV).view.set q fe))) $$ He
  iapply (Scf.wp_for_bind _ _ _ _ _ _ k1_t1_ok ⟨⟩ (body1 L) (inv1 d L q fs fe gs ge w) (step1 d L q fs fe gs ge w hw)) $$ [HS HE HgS HgE Hs16 He16]
  · unfold inv1
    rw [Nat.zero_mul, ← Transfers.bigSep_pending_zero, ← Transfers.bigSep_pending_zero, ← Transfers.bigSep_pending_zero, ← Transfers.bigSep_pending_zero]
    isplitl [HS]; · iexact HS
    isplitl [HE]; · iexact HE
    isplitl [HgS]; · iexact HgS
    isplitl [HgE]; · iexact HgE
    isplitl [Hs16]; · iexact Hs16
    iexact He16
  iintro %acc HI
  unfold inv1
  icases HI with ⟨HS, HE, -⟩
  iapply (Scf.wp_for_bind _ _ _ _ _ _ k1_t2_ok ⟨⟩ (body2 L) (inv2 d L q fs fe gs ge w O W) (step2 d L q fs fe gs ge w O W)) $$ [HS HE HO]
  · unfold inv2
    isplitr; · iexact Hmw
    isplitl [HS]; · iexact HS
    isplitl [HE]; · iexact HE
    iexists W
    isplitr
    · ipureintro; exact fun p hp => .inl hp
    · iexact HO
  iintro %acc' HI
  unfold inv2
  rw [show Scf.trips k1_t2_loop.lb k1_t2_loop.ub k1_t2_loop.st * (128 * N1) = N1 * 2048 by rw [show Scf.trips k1_t2_loop.lb k1_t2_loop.ub k1_t2_loop.st = 16 from trips2]; decide]
  icases HI with ⟨-, HS, HE, HO⟩
  imod (Transfers.batch_collect' countersEmb (V d (cV L) (jV L)) (n := 2048) (N := N1) (by decide) (D := delivered d (cV L) (jV L) gsV sV q fullShare.left fs gs w)) $$ HS with ⟨HdS, HvS⟩
  imod (Transfers.batch_collect' countersEmb (V d (cV L) (jV L)) (n := 2048) (N := N1) (by decide) (D := delivered d (cV L) (jV L) geV eV q fullShare.right fe ge w)) $$ HE with ⟨HdE, HvE⟩
  ihave HdS' := (Entails.of_eq (delivered_all d (cV L) (jV L) gsV sV (View.set_whole _) q fullShare.left fs gs w)) $$ HdS
  ihave HdE' := (Entails.of_eq (delivered_all d (cV L) (jV L) geV eV (View.set_whole _) q fullShare.right fe ge w)) $$ HdE
  icases HdS' with ⟨⟨Hgs, Hwl⟩, Hs⟩
  icases HdE' with ⟨⟨Hge, Hwr⟩, He⟩
  rw [View.write_whole_univ, View.write_whole_univ, View.set_whole, View.set_whole]
  ihave Hw := (pointsTo_share (PosShare.mem_left_op_right fullShare)).2 $$ [Hwl Hwr]
  · isplitl [Hwl] <;> iassumption
  iapply Hk
  isplitl [Hw Hgs Hge Hs He]
  · isplitl [Hw]; · iexact Hw
    isplitl [Hgs]; · iexact Hgs
    isplitl [Hge]; · iexact Hge
    isplitl [Hs]; · iexact Hs
    iexact He
  isplitl [HvS]; · iexact HvS
  isplitl [HvE]; · iexact HvE
  iexact HO

end Cert.Proof.Gather

end
-- ==== Proof.Tile.lean ====
/-
  THE TASK ON ONE VECTOR SUBCORE, at a symbolic SparseCore and subcore. The subcore's number `n = 2 * subcore + core` names
  its row of the index array and its block of the output. It copies its row of indices in, gathers from both tables, halves
  the sums, and copies its 2048 samples out.
-/
module

public import proofs.«01_k».proof.Proof.Gather

@[expose] public section

noncomputable section

namespace Cert.Proof.Tile

open Cert.KernelIdeal Cert.KernelIdeal.Gen Cert.Proof.Setup Cert.Proof.StreamBatch Cert.Proof.Issue Cert.Proof.Loops Cert.Proof.Gather

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F
local notation "iV" => (Memref.whole Cert.KernelIdeal.main_v2_scv : Memref Cert.KernelIdeal.sig Kind.scVector Space.hbm Cert.KernelIdeal.S32x16x128 EltTy.i32)
local notation "sV" => (Memref.whole Cert.KernelIdeal.main_v3_scv : Memref Cert.KernelIdeal.sig Kind.scVector Space.hbm Cert.KernelIdeal.S8388608 EltTy.f32)
local notation "eV" => (Memref.whole Cert.KernelIdeal.main_v4_scv : Memref Cert.KernelIdeal.sig Kind.scVector Space.hbm Cert.KernelIdeal.S8388608 EltTy.f32)
local notation "oV" => (Memref.whole Cert.KernelIdeal.main_v5_scv : Memref Cert.KernelIdeal.sig Kind.scVector Space.hbm Cert.KernelIdeal.S65536 EltTy.f32)
local notation "liV" => (Memref.whole Cert.KernelIdeal.cc1_scratch0 : Memref Cert.KernelIdeal.sig Kind.scVector Space.vmem Cert.KernelIdeal.S16x128 EltTy.i32)
local notation "gsV" => (Memref.whole Cert.KernelIdeal.cc1_scratch1 : Memref Cert.KernelIdeal.sig Kind.scVector Space.vmem Cert.KernelIdeal.S2048 EltTy.f32)
local notation "geV" => (Memref.whole Cert.KernelIdeal.cc1_scratch2 : Memref Cert.KernelIdeal.sig Kind.scVector Space.vmem Cert.KernelIdeal.S2048 EltTy.f32)

/-! ## The parts of the arrays -/

/-- The list is cut into 32 equal parts. -/
theorem idiv : 32 ∣ S32x16x128.size 0 := by decide
/-- The output is cut into 32 equal parts. -/
theorem odiv : 32 ∣ S65536.size 0 := by decide
abbrev irow (n : Fin 32) : Rect S32x16x128 := Rect.part (s := S32x16x128) (a₀ := 0) idiv n
abbrev orow (n : Fin 32) : Rect S65536 := Rect.part (s := S65536) (a₀ := 0) odiv n
/-- Row `n` of the index array, block `n` of the output. -/
abbrev iSet (n : Fin 32) : Finset S32x16x128.Idx := (irow n).set
abbrev oSet (n : Fin 32) : Finset S65536.Idx := (orow n).set
/-- Subcore `n`'s share of a table. -/
abbrev tq (n : Fin 32) : PosShare TreeShare := pieceOf fullShare 32 (by decide) n

/-- The word that sample `y` reads: row, stream and lane. -/
def word (y : Fin 65536) : S32x16x128.Idx := fun
  | 0 => ⟨y.val / 2048, show y.val / 2048 < 32 by have := y.isLt; omega⟩
  | 1 => ⟨y.val % 2048 / 128, show y.val % 2048 / 128 < 16 by omega⟩
  | 2 => ⟨y.val % 128, show y.val % 128 < 128 from Nat.mod_lt _ (by decide)⟩

/-- The output the launch writes: at each sample the half of the sum of the two tables at the sample's word. -/
def outG (fi : S32x16x128.Idx → BitVec 32) (fs fe : S8388608.Idx → F .f32) : S65536.Idx → F .f32 :=
  fun y => half (fs (at8 (fi (word ⟨(y 0).val, (y 0).isLt⟩)))) (fe (at8 (fi (word ⟨(y 0).val, (y 0).isLt⟩))))

/-- What subcore `n` holds of the launch's operands, the output's block at `fo`. -/
abbrev tilePts (d : Dev nD) (n : Fin 32) (fi : Buf (Elt F) (iLoc d)) (fs : Buf (Elt F) (sLoc d)) (fe : Buf (Elt F) (eLoc d)) (fo : Buf (Elt F) (oLoc d)) : sProp 𝕄 :=
  iprop((iLoc d ↦[iSet n]{fullShare} fi) ∗ (sLoc d ↦{tq n} fs) ∗ (eLoc d ↦{tq n} fe) ∗ (oLoc d ↦[oSet n]{fullShare} fo))

variable (d : Dev nD) (L : grid1.Coords)

/-- The grid has two SparseCores. -/
theorem bound_zero : grid1.bound 0 = 2 := rfl
/-- The grid has 16 tiles of each. -/
theorem bound_one : grid1.bound 1 = 16 := rfl

/-- The subcore's number. -/
def nL : Fin 32 := ⟨2 * (L 1).val + (L 0).val, by
  have h0 : (L 0).val < 2 := (L 0).isLt
  have h1 : (L 1).val < 16 := (L 1).isLt
  omega⟩

abbrev irowK : Rect S32x16x128 := Rect.unit (s := S32x16x128) (k1_off1 L) S1x16x128.size (k1_off1_inb L)
abbrev orowK : Rect S65536 := Rect.unit (s := S65536) (k1_off7 L) S2048.size (k1_off7_inb L)
/-- The row and the block as the body names them. -/
abbrev iRowK : Memref sig .scVector .hbm S16x128 .i32 := ((iV).slice (irowK L) (fun _ => rfl)).squeeze S16x128 squeezes_S1x16x128_S16x128
abbrev oRowK : Memref sig .scVector .hbm S2048 .f32 := (oV).slice (orowK L) (fun _ => rfl)

/-- The body's rectangle of the list is the tile's part. -/
theorem irowK_eq : irowK L = irow (nL L) := by
  unfold irowK irow Rect.part Rect.block
  congr 1 <;> funext a
  · rw [k1_off1_eq]
    match a with
    | 0 => simp [Shape.partIx, Shape.partSize, nL]
    | 1 => simp [Shape.partIx, Shape.partSize]
    | 2 => simp [Shape.partIx, Shape.partSize]
  · match a with
    | 0 => simp [Shape.partSize]
    | 1 => simp [Shape.partSize]
    | 2 => simp [Shape.partSize]
/-- The body's rectangle of the output is the tile's part. -/
theorem orowK_eq : orowK L = orow (nL L) := by
  unfold orowK orow Rect.part Rect.block
  congr 1 <;> funext a
  · rw [k1_off7_eq]
    match a with
    | 0 =>
      show 4096 * (L 1).val + 2048 * (L 0).val = (nL L).val * 2048
      unfold nL
      show 4096 * (L 1).val + 2048 * (L 0).val = (2 * (L 1).val + (L 0).val) * 2048
      omega
  · match a with
    | 0 => simp [Shape.partSize]

/-- The body's slice of the list covers the tile's part. -/
theorem set_iRowK : (iRowK L).view.set = iSet (nL L) := by
  show (((iV).view.slice (irowK L)).reshape S16x128 squeezes_S1x16x128_S16x128.numel_eq).set = _
  rw [View.set_reshape]
  exact (View.set_slice ..).trans (Finset.map_refl.trans (congrArg (fun r : Rect S32x16x128 => r.set) (irowK_eq L)))
/-- The body's slice of the output covers the tile's part. -/
theorem set_oRowK : (oRowK L).view.set = oSet (nL L) := by
  show ((oV).view.slice (orowK L)).set = _
  exact (View.set_slice ..).trans (Finset.map_refl.trans (congrArg (fun r : Rect S65536 => r.set) (orowK_eq L)))

/-- The tile's part of the list, spelt as the body slices it. -/
theorem pts_iRowK (f : Buf (Elt F) (iLoc d)) :
    ((iRowK L).view.loc (V d (cV L) (jV L)) ↦[(iRowK L).view.set]{fullShare} f : sProp 𝕄) = iLoc d ↦[iSet (nL L)]{fullShare} f := by
  rw [set_iRowK]
/-- The tile's part of the output, spelt as the body slices it. -/
theorem pts_oRowK (f : Buf (Elt F) (oLoc d)) :
    ((oRowK L).view.loc (V d (cV L) (jV L)) ↦[(oRowK L).view.set]{fullShare} f : sProp 𝕄) = oLoc d ↦[oSet (nL L)]{fullShare} f := by
  rw [set_oRowK]

/-- Entry `x` of the row, and sample `y` of the block, as the arrays number them. -/
theorem iRowK_emb (t : Fin 2048) : (iRowK L).view.emb (x2 t) = word ⟨(nL L).val * 2048 + t.val, by have := t.isLt; have := (nL L).isLt; omega⟩ := by
  have ht := t.isLt
  have e : Shape.reshapeEquiv squeezes_S1x16x128_S16x128.numel_eq (x2 t)
      = (fun | 0 => ⟨0, by decide⟩ | 1 => ⟨t.val / 128, show t.val / 128 < 16 by omega⟩ | 2 => ⟨t.val % 128, show t.val % 128 < 128 by omega⟩ : S1x16x128.Idx) :=
    Shape.reshapeEquiv_eq_of_rowMajor _ (by
      rw [Shape.rowMajor_val_three, Shape.rowMajor_val_two]
      show (0 * 16 + t.val / 128) * 128 + t.val % 128 = t.val / 128 * 128 + t.val % 128
      omega)
  show (irowK L).emb (Shape.reshapeEquiv squeezes_S1x16x128_S16x128.numel_eq (x2 t)) = _
  rw [e]
  refine Rect.emb_eq_of_coords _ _ _ fun a => ?_
  match a with
  | 0 =>
    show ((nL L).val * 2048 + t.val) / 2048 = k1_off1 L 0 + 1 * 0
    rw [k1_off1_eq]
    show ((nL L).val * 2048 + t.val) / 2048 = (nL L).val + 1 * 0
    omega
  | 1 =>
    show ((nL L).val * 2048 + t.val) % 2048 / 128 = k1_off1 L 1 + 1 * (t.val / 128)
    rw [k1_off1_eq]
    show ((nL L).val * 2048 + t.val) % 2048 / 128 = 0 + 1 * (t.val / 128)
    omega
  | 2 =>
    show ((nL L).val * 2048 + t.val) % 128 = k1_off1 L 2 + 1 * (t.val % 128)
    rw [k1_off1_eq]
    show ((nL L).val * 2048 + t.val) % 128 = 0 + 1 * (t.val % 128)
    omega
/-- Where a word of the tile's part lies in the output. -/
theorem oRowK_emb (y : S2048.Idx) : ((oRowK L).view.emb y 0).val = (nL L).val * 2048 + (y 0).val := by
  show k1_off7 L 0 + 1 * (y 0).val = _
  rw [k1_off7_eq]
  unfold nL
  show 4096 * (L 1).val + 2048 * (L 0).val + 1 * (y 0).val = (2 * (L 1).val + (L 0).val) * 2048 + (y 0).val
  omega

/-- The list that the index copy lands. -/
abbrev listW (fi : Buf (Elt F) (iLoc d)) : S16x128.Idx → BitVec 32 := (iRowK L).view.read (Elt F) fi

/-- The tile's list, out of the whole one. -/
theorem listW_eq (fi : Buf (Elt F) (iLoc d)) (i : S16x128.Idx) : listW d L fi i = fi ((iRowK L).view.emb i) :=
  (View.read_apply _ _).trans (cast_eq _ _)

/-- The block written with the averaged samples is the launch's output, there. -/
theorem block_value (fi : Buf (Elt F) (iLoc d)) (fs fe : S8388608.Idx → F .f32) (fo : Buf (Elt F) (oLoc d)) :
    ∀ i ∈ (oRowK L).view.set,
      (oRowK L).view.writes (Elt F) fo [⟨Rect.whole S2048, part (gathered fs (listW d L fi)) (gathered fe (listW d L fi)) 32⟩] i
        = outG fi fs fe i := by
  intro i hi
  obtain ⟨y, -, rfl⟩ := Finset.mem_map.mp hi
  have hy : (y 0).val < 2048 := (y 0).isLt
  have hr := View.read_writes_cons_hit_of_coords (Val := Elt F) (oRowK L).view fo (Rect.whole S2048)
    (part (gathered fs (listW d L fi)) (gathered fe (listW d L fi)) 32) [] y y (fun a => by show (y a).val = 0 + 1 * (y a).val; omega)
  refine (((View.read_apply _ _).trans (cast_eq _ _)).symm.trans hr).trans ?_
  unfold part
  rw [if_pos (by omega)]
  unfold outG gathered
  have e : listW d L fi (x2 ⟨(y 0).val, (y 0).isLt⟩) = fi (word ⟨((oRowK L).view.emb y 0).val, ((oRowK L).view.emb y 0).isLt⟩) := by
    rw [listW_eq, iRowK_emb]
    exact congrArg (fun z => fi (word z)) (Fin.ext (oRowK_emb L y).symm)
  rw [e]

/-! ## The subcore's own cells and scratch buffers -/

abbrev c3 (d : Dev nD) (c : Fin τ.nSC) (i : Fin τ.nSub) : GSem nD τ sig := (V d c i, .dma cc1_scratch3.sem)
abbrev c4 (d : Dev nD) (c : Fin τ.nSC) (i : Fin τ.nSub) : GSem nD τ sig := (V d c i, .dma cc1_scratch4.sem)
abbrev cA (d : Dev nD) (c : Fin τ.nSC) (i : Fin τ.nSub) : GSem nD τ sig := (V d c i, .dma cc1_scoped0.sem)
abbrev cB (d : Dev nD) (c : Fin τ.nSC) (i : Fin τ.nSub) : GSem nD τ sig := (V d c i, .dma cc1_scoped1.sem)

/-- Two semaphores of one thread have two cells. -/
theorem cell_ne {c : Thread nD τ} {a b : DmaSem sig} (h : a ≠ b) : ((c, SemLoc.dma a) : GSem nD τ sig) ≠ (c, SemLoc.dma b) :=
  fun e => h (SemLoc.dma.inj (Prod.mk.inj e).2)

/-- The four semaphores are among the subcore's own: them, at zero, and the rest. -/
theorem ownSems0_V :
    (ownSems0 (V d (cV L) (jV L)) : sProp 𝕄)
      = iprop(semVal (c3 d (cV L) (jV L)) 0 ∗ semVal (c4 d (cV L) (jV L)) 0 ∗ semVal (cA d (cV L) (jV L)) 0 ∗ semVal (cB d (cV L) (jV L)) 0
          ∗ bigSep (((((ownCells (V d (cV L) (jV L))).erase (c3 d (cV L) (jV L))).erase (c4 d (cV L) (jV L))).erase (cA d (cV L) (jV L))).erase (cB d (cV L) (jV L)))
              fun g => semVal g 0) := by
  have m3 : c3 d (cV L) (jV L) ∈ ownCells (V d (cV L) (jV L)) := (mem_ownCells (g := c3 d (cV L) (jV L))).mpr ⟨rfl, by
    show (SemLoc.dma cc1_scratch3.sem : SemLoc sig).isScoped .scVector = true; decide⟩
  have m4 : c4 d (cV L) (jV L) ∈ ownCells (V d (cV L) (jV L)) := (mem_ownCells (g := c4 d (cV L) (jV L))).mpr ⟨rfl, by
    show (SemLoc.dma cc1_scratch4.sem : SemLoc sig).isScoped .scVector = true; decide⟩
  have mA : cA d (cV L) (jV L) ∈ ownCells (V d (cV L) (jV L)) := (mem_ownCells (g := cA d (cV L) (jV L))).mpr ⟨rfl, by
    show (SemLoc.dma cc1_scoped0.sem : SemLoc sig).isScoped .scVector = true; decide⟩
  have mB : cB d (cV L) (jV L) ∈ ownCells (V d (cV L) (jV L)) := (mem_ownCells (g := cB d (cV L) (jV L))).mpr ⟨rfl, by
    show (SemLoc.dma cc1_scoped1.sem : SemLoc sig).isScoped .scVector = true; decide⟩
  unfold SparseCore.Cfg.ownSems0
  rw [SparseCore.bigSep_erase' m3,
    SparseCore.bigSep_erase' (Finset.mem_erase.mpr ⟨cell_ne (by decide), m4⟩),
    SparseCore.bigSep_erase' (Finset.mem_erase.mpr ⟨cell_ne (by decide), Finset.mem_erase.mpr ⟨cell_ne (by decide), mA⟩⟩),
    SparseCore.bigSep_erase' (Finset.mem_erase.mpr ⟨cell_ne (by decide), Finset.mem_erase.mpr ⟨cell_ne (by decide), Finset.mem_erase.mpr ⟨cell_ne (by decide), mB⟩⟩⟩)]

/-- The three scratch buffers are among the subcore's own: them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨hne (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨hne (by decide), Finset.mem_erase.mpr ⟨hne (by decide),
      SparseCore.Cfg.mem_ownRefs_of_owner (p := Proc.scVector (cV L) (jV L)) (b := (Proc.scVector (cV L) (jV L)).devRef cc1_scratch2) rfl⟩⟩)]

/-! ## The body -/

/-- Before the first trip of the last loop, nothing is averaged. -/
theorem part_zero (gs ge : S2048.Idx → Elt F .f32) : part gs ge 0 = gs :=
  funext fun y => if_neg (by omega)

set_option maxHeartbeats 4000000 in
/-- The task on vector subcore `(L 0, L 1)` of device `d`: its block of the output ends at the launch's value. -/
theorem tile_body (hF : (K (F := F)).Facts) (fi : Buf (Elt F) (iLoc d)) (fs : Buf (Elt F) (sLoc d)) (fe : Buf (Elt F) (eLoc d)) (fo : Buf (Elt F) (oLoc d))
    (hin : ∀ i : S32x16x128.Idx, BitVec.toNat (w := 32) (fi i) < 8388608) (O : CellTallies nD τ sig (HIx 1)) (W : Waits sig (HIx 1)) (hO : ∀ g, O g none = 0) :
    iprop(levAts (K (F := F)).L (K (F := F)).lev ∗ emp
        ∗ tilePts d (nL L) fi fs fe fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L iV (Memref.isWhole_whole _) sV (Memref.isWhole_whole _) eV (Memref.isWhole_whole _) oV (Memref.isWhole_whole _)
            liV (Memref.isWhole_whole _) gsV (Memref.isWhole_whole _) geV (Memref.isWhole_whole _) cc1_scratch3 cc1_scratch4 cc1_scoped0 cc1_scoped1)
          fun _ => iprop(tilePts d (nL L) fi fs fe (outG fi fs fe)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Hs, He, Ho⟩, ⟨⟨%fl, Hl⟩, ⟨%f1, H1⟩, ⟨%f2, H2⟩, Hbufs⟩, ⟨Hc3, Hc4, HcA, HcB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hl' := (Entails.of_eq (show ((V d (cV L) (jV L)).loc cc1_scratch0 ↦{fullShare} fl : sProp 𝕄) = (liV).view.loc (V d (cV L) (jV L)) ↦{fullShare} fl from rfl)) $$ Hl
  sl_exec
  ihave Hl2 := (Entails.of_eq (show ((liV).view.loc (V d (cV L) (jV L)) ↦{fullShare} View.write (Elt F) (liV).view fl (tile_body.sl.dma0 d L fi) Finset.univ : sProp 𝕄)
      = listPts d L (listW d L fi) from congrArg (fun g => ((liV).view.loc (V d (cV L) (jV L)) ↦{fullShare} g : sProp 𝕄)) (View.write_whole_univ ..))) $$ Hl'
  iapply (wp_streams d L (tq (nL L)) fs fe f1 f2 (listW d L fi) (fun i => by rw [listW_eq]; exact hin _) O _) $$ [Hl2 H1 H2 Hs He Hc3 Hc4 HO]
  · isplitr; · iexact Hmw
    isplitl [Hl2 H1 H2 Hs He]
    · isplitl [Hl2]; · iexact Hl2
      isplitl [H1]; · iexact H1
      isplitl [H2]; · iexact H2
      isplitl [Hs]; · iexact Hs
      iexact He
    isplitl [Hc3]; · iexact Hc3
    isplitl [Hc4]; · iexact Hc4
    iexact HO
  iintro ⟨⟨Hl, H1, H2, Hs, He⟩, Hc3, Hc4, %W1, %hW1, HO⟩
  iapply (Scf.wp_for_bind _ _ _ _ _ _ k1_t3_ok ⟨⟩ (body3 L) (inv3 d L (gathered fs (listW d L fi)) (gathered fe (listW d L fi)))
    (step3 d L (gathered fs (listW d L fi)) (gathered fe (listW d L fi)))) $$ [H1 H2]
  · unfold inv3
    rw [part_zero]
    isplitl [H1]; · iexact H1
    iexact H2
  iintro %acc HI
  unfold inv3
  rw [show Scf.trips k1_t3_loop.lb k1_t3_loop.ub k1_t3_loop.st = 32 from trips3]
  icases HI with ⟨H1, H2⟩
  ihave H1' := (Entails.of_eq (pts_gs d L _).symm) $$ H1
  sl_exec
  sl_step
  isplitl [Hi' Hs He Ho']
  · isplitl [Hi']; · iapply (Entails.of_eq (pts_iRowK (F := F) d L _)); iexact Hi'
    isplitl [Hs]; · iexact Hs
    isplitl [He]; · iexact He
    iapply (Entails.of_eq ((pointsTo_congr (block_value d L fi fs fe fo)).trans (pts_oRowK (F := F) d L _))); iexact Ho'
  isplitl [Hl H1' H2 Hbufs]
  · isplitl [Hl]; · iexists _; iexact Hl
    isplitl [H1']; · iexists _; iexact H1'
    isplitl [H2]; · iexists _; iexact H2
    iexact Hbufs
  isplitl [Hc3 Hc4 HcA HcB Hsems]
  · isplitl [Hc3]; · iexact Hc3
    isplitl [Hc4]; · iexact Hc4
    isplitl [HcA]; · iexact HcA
    isplitl [HcB]; · iexact HcB
    iexact Hsems
  iexists _; isplitr
  swap; · iexact HO
  ipureintro; intro p hp
  rcases Finset.mem_insert.mp hp with hp | hp; · exact .inr (hp ▸ rfl)
  rcases hW1 p hp with hp | hp
  · rcases Finset.mem_insert.mp hp with hp | hp; · exact .inr (hp ▸ rfl)
    exact .inl hp
  · exact .inr hp

end Cert.Proof.Tile

end
-- ==== Proof.Deal.lean ====
/-
  WHAT THE SPARSECORE LAUNCH CARRIES. The four arrays are dealt to the 32 vector subcores and come back whole: a subcore
  takes its row of the indices, its share of each table and its block of the output. The launch's obligations follow from
  the task's theorem.
-/
module

public import proofs.«01_k».proof.Proof.Tile

@[expose] public section

noncomputable section

namespace Cert.Proof.Deal

open Cert.KernelIdeal Cert.KernelIdeal.Gen Cert.Proof.Setup Cert.Proof.Loops Cert.Proof.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## The parts -/

/-- The number of subcore `i` of SparseCore `c`. -/
def tileOf (c : Fin 2) (i : Fin 16) : Fin 32 := ⟨2 * i.val + c.val, by have := c.isLt; have := i.isLt; omega⟩

/-- The 32 subcores as pairs. -/
def tileEquiv : Fin 2 × Fin 16 ≃ Fin 32 where
  toFun p := tileOf p.1 p.2
  invFun n := (⟨n.val % 2, by omega⟩, ⟨n.val / 2, by have := n.isLt; omega⟩)
  left_inv p := by
    obtain ⟨c, i⟩ := p
    have := c.isLt
    refine Prod.ext (Fin.ext ?_) (Fin.ext ?_)
    · show (2 * i.val + c.val) % 2 = c.val; omega
    · show (2 * i.val + c.val) / 2 = i.val; omega
  right_inv n := Fin.ext (show 2 * (n.val / 2) + n.val % 2 = n.val by omega)

/-- Something for each of 32 is something for each tile of each SparseCore. -/
theorem bigSep_tiles (Φ : Fin 32 → sProp 𝕄) :
    bigSep Finset.univ Φ = bigSep Finset.univ fun c : Fin 2 => bigSep Finset.univ fun i : Fin 16 => Φ (tileOf c i) := by
  rw [BI.bigSep_univ_equiv tileEquiv Φ, BI.bigSep_univ_prod]; rfl

/-- The list of indices, cut into the tiles' rows. -/
theorem iPts_rows (d : Dev nD) (f : Buf (Elt F) (iLoc d)) :
    (iLoc d ↦{fullShare} f : sProp 𝕄) = bigSep Finset.univ fun n : Fin 32 => iLoc d ↦[iSet n]{fullShare} f := by
  rw [← pointsTo_biUnion Finset.univ (ℓ := iLoc d) iSet (fun n _ n' _ h => Rect.part_disjoint idiv h)]
  exact congrArg (fun s => (iLoc d ↦[s]{fullShare} f : sProp 𝕄)) (Rect.biUnion_part idiv).symm

/-- The output, cut into the tiles' rows. -/
theorem oPts_rows (d : Dev nD) (f : Buf (Elt F) (oLoc d)) :
    (oLoc d ↦{fullShare} f : sProp 𝕄) = bigSep Finset.univ fun n : Fin 32 => oLoc d ↦[oSet n]{fullShare} f := by
  rw [← pointsTo_biUnion Finset.univ (ℓ := oLoc d) oSet (fun n _ n' _ h => Rect.part_disjoint odiv h)]
  exact congrArg (fun s => (oLoc d ↦[s]{fullShare} f : sProp 𝕄)) (Rect.biUnion_part odiv).symm

/-- The four arrays, whole. -/
abbrev whole (d : Dev nD) (fi : Buf (Elt F) (iLoc d)) (fs : Buf (Elt F) (sLoc d)) (fe : Buf (Elt F) (eLoc d)) (fo : Buf (Elt F) (oLoc d)) : sProp 𝕄 :=
  iprop((iLoc d ↦{fullShare} fi) ∗ (sLoc d ↦{fullShare} fs) ∗ (eLoc d ↦{fullShare} fe) ∗ (oLoc d ↦{fullShare} fo))

/-- The four arrays are the 32 subcores' parts of them. -/
theorem whole_tiles (d : Dev nD) (fi : Buf (Elt F) (iLoc d)) (fs : Buf (Elt F) (sLoc d)) (fe : Buf (Elt F) (eLoc d)) (fo : Buf (Elt F) (oLoc d)) :
    whole d fi fs fe fo
      = bigSep Finset.univ fun c : Fin 2 => bigSep Finset.univ fun i : Fin 16 => tilePts d (tileOf c i) fi fs fe fo := by
  rw [← bigSep_tiles fun n => tilePts d n fi fs fe fo, bigSep_sep', bigSep_sep', bigSep_sep', ← iPts_rows, ← oPts_rows,
    ← pointsTo_piecesOf (ℓ := sLoc d) (Val := Elt F) (Ix := HIx 1) (Name := ℕ) (U := UU) (Lvl := ℕ) Finset.univ fs (by decide : 0 < 32) fullShare,
    ← pointsTo_piecesOf (ℓ := eLoc d) (Val := Elt F) (Ix := HIx 1) (Name := ℕ) (U := UU) (Lvl := ℕ) Finset.univ fe (by decide : 0 < 32) fullShare]

/-! ## What the handshakes carry -/

variable (fi : (d : Dev nD) → Buf (Elt F) (iLoc d)) (fs : (d : Dev nD) → Buf (Elt F) (sLoc d)) (fe : (d : Dev nD) → Buf (Elt F) (eLoc d))
  (fo : (d : Dev nD) → Buf (Elt F) (oLoc d))

abbrev before (d : Dev nD) (c : Fin 2) (i : Fin 16) : sProp 𝕄 := tilePts d (tileOf c i) (fi d) (fs d) (fe d) (fo d)
abbrev after (d : Dev nD) (c : Fin 2) (i : Fin 16) : sProp 𝕄 := tilePts d (tileOf c i) (fi d) (fs d) (fe d) (outG (fi d) (fs d) (fe d))

/-- A SparseCore takes its sixteen subcores' parts, a subcore its own; they come back with the output written. -/
def P : (K (F := F)).Pay (nD := nD) (Val := Elt F) (Name := ℕ) (U := UU) where
  st := fun q d c => match q with | 0 => bigSep Finset.univ fun i : Fin 16 => before fi fs fe fo d (Fin.cast nCore_zero c) i
  dn := fun q d c => match q with | 0 => bigSep Finset.univ fun i : Fin 16 => after fi fs fe d (Fin.cast nCore_zero c) i
  go := fun q d c i => match q with | 0 => before fi fs fe fo d (Fin.cast nCore_zero c) (Fin.cast nSub_zero i)
  td := fun q d c i => match q with | 0 => after fi fs fe d (Fin.cast nCore_zero c) (Fin.cast nSub_zero i)
  x := fun _ _ => iprop(emp)

instance P_storable : (P (F := F) fi fs fe fo).IsStorable where
  st q d c := match q with
    | 0 => (inferInstance : BI.Storable (upEmb : UEmb _ 𝕄) (bigSep Finset.univ fun i : Fin 16 => before fi fs fe fo d (Fin.cast nCore_zero c) i))
  dn q d c := match q with
    | 0 => (inferInstance : BI.Storable (upEmb : UEmb _ 𝕄) (bigSep Finset.univ fun i : Fin 16 => after fi fs fe d (Fin.cast nCore_zero c) i))
  go q d c i := match q with
    | 0 => (inferInstance : BI.Storable (upEmb : UEmb _ 𝕄) (before fi fs fe fo d (Fin.cast nCore_zero c) (Fin.cast nSub_zero i)))
  td q d c i := match q with
    | 0 => (inferInstance : BI.Storable (upEmb : UEmb _ 𝕄) (after fi fs fe d (Fin.cast nCore_zero c) (Fin.cast nSub_zero i)))

/-- What the TensorCore gives and gets back, over the launch's SparseCores: the four arrays whole. -/
theorem st_eq (d : Dev nD) : (bigSep Finset.univ fun c : Fin ((K (F := F)).nCore 0) => (P fi fs fe fo).st 0 d c) = whole d (fi d) (fs d) (fe d) (fo d) :=
  (whole_tiles d (fi d) (fs d) (fe d) (fo d)).symm
/-- What the SparseCores hand back, taken together. -/
theorem dn_eq (d : Dev nD) : (bigSep Finset.univ fun c : Fin ((K (F := F)).nCore 0) => (P fi fs fe fo).dn 0 d c)
    = whole d (fi d) (fs d) (fe d) (outG (fi d) (fs d) (fe d)) :=
  (whole_tiles d (fi d) (fs d) (fe d) (outG (fi d) (fs d) (fe d))).symm

/-! ## The launch's obligations -/

def coordsV (c : Fin (grid1.bound 0)) (s : Fin (grid1.bound 1)) : grid1.Coords :=
  fun | 0 => c | 1 => s | ⟨_ + 2, h⟩ => absurd h (Nat.not_lt.2 (Nat.le_add_left _ _))

/-- The vector subcore's body. -/
theorem defs₀_vector (c : Fin τ.nSC) (s : Fin τ.nSub) :
    defs₀ (F := F) (.scVector c s) 1 ()
      = SparseCore.onTile hcore1 hsub1 (fun c s => cc1__sc_gather_body (coordsV c s)
          (Memref.whole main_v2_scv) (Memref.isWhole_whole _) (Memref.whole main_v3_scv) (Memref.isWhole_whole _)
          (Memref.whole main_v4_scv) (Memref.isWhole_whole _) (Memref.whole main_v5_scv) (Memref.isWhole_whole _)
          (Memref.whole cc1_scratch0) (Memref.isWhole_whole _) (Memref.whole cc1_scratch1) (Memref.isWhole_whole _)
          (Memref.whole cc1_scratch2) (Memref.isWhole_whole _) cc1_scratch3 cc1_scratch4 cc1_scoped0 cc1_scoped1) ⟨⟩ c s := rfl

/-- The waits a task records are its own or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task meets the launch's obligation, the indices being in range. -/
theorem tileObl (hF : (K (F := F)).Facts) (hin : ∀ (d : Dev nD) (i : S32x16x128.Idx), BitVec.toNat (w := 32) (fi d i) < 8388608) :
    (K (F := F)).TileObl (D (F := F)) 𝒱 (P fi fs fe fo) v₀ 0 := by
  intro d c i O W hO _ _
  simp only [show (P fi fs fe fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (fi d) (fs d) (fe d) (fo d) (hin d) O W hO).trans (wp_mono frame _ _ fun _ => obl_post)

/-- A SparseCore's parts are its subcores'. -/
theorem vecSplit : (K (F := F)).VecSplit' (P fi fs fe fo) 0 := by
  intro d c
  show (bigSep Finset.univ fun i : Fin 16 => before fi fs fe fo d (Fin.cast nCore_zero c) i) ⊢ |={Set.univ}=> iprop(
      (bigSep Finset.univ fun i : Fin 16 => before fi fs fe fo d (Fin.cast nCore_zero c) i)
      ∗ ((bigSep Finset.univ fun i : Fin 16 => after fi fs fe d (Fin.cast nCore_zero c) i)
          -∗ (bigSep Finset.univ fun i : Fin 16 => after fi fs fe d (Fin.cast nCore_zero c) i)))
  iintro H; imodintro
  isplitl [H]; · iexact H
  iintro H; iexact H

end Cert.Proof.Deal

end
-- ==== Proof.Main.lean ====
/-
  THE WHOLE PROGRAM: @main on the TensorCore from the launch memory to the result, and the program's run. The buffers go
  through one valuation after another: the weights reshaped, the indices computed, the three operands reshaped, the
  SparseCores' output, the result reshaped.
-/
module

public import proofs.«01_k».proof.Proof.Region
public import proofs.«01_k».proof.Proof.Deal

@[expose] public section

noncomputable section

namespace Cert.Proof.Main

open Cert.KernelIdeal Cert.KernelIdeal.Gen Cert.Proof.Setup Cert.Proof.Loops Cert.Proof.Tile Cert.Proof.Deal Cert.Proof.Region

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [∀ e, Nonempty (Elt F e)]

local notation "𝕄" => MM F

variable (m : (ℓ : Loc nD τ sig) → Buf (Elt F) ℓ) (ρ : Dev nD → PrngReg)

/-! ## The buffers' contents along @main -/

abbrev rW : HloOp τ sig (Elt F) := StableHlo.reshape main_arg0 main_v0 (rfl : (.f32 : EltTy) = .f32) shapeCasts_S65536x128x1_S65536x128
abbrev rI : HloOp τ sig (Elt F) := StableHlo.reshape main_v1 main_v2 (rfl : (.i32 : EltTy) = .i32) shapeCasts_S65536_S32x16x128
abbrev rS : HloOp τ sig (Elt F) := StableHlo.reshape main_arg1 main_v3 (rfl : (.f32 : EltTy) = .f32) shapeCasts_S65536x128x1_S8388608
abbrev rE : HloOp τ sig (Elt F) := StableHlo.reshape main_arg2 main_v4 (rfl : (.f32 : EltTy) = .f32) shapeCasts_S65536x128x1_S8388608
abbrev rO : HloOp τ sig (Elt F) := StableHlo.reshape main_v5 main_v6 (rfl : (.f32 : EltTy) = .f32) shapeCasts_S65536_S65536x1

/-- At launch; with the weights flat; with the indices; with the SparseCores' operands ready; with their output; at the end. -/
def W0 (d : Dev nD) : Valuation τ sig (Elt F) := fun b => m (d, b)
def W1 (d : Dev nD) : Valuation τ sig (Elt F) := rW.result (W0 m d)
def W2 (d : Dev nD) : Valuation τ sig (Elt F) := Function.update (W1 m d) (Proc.devRef .tc main_v1) (indices (W1 m d main_v0))
def W5 (d : Dev nD) : Valuation τ sig (Elt F) := rE.result (rS.result (rI.result (W2 m d)))
def W6 (d : Dev nD) : Valuation τ sig (Elt F) :=
  Function.update (W5 m d) (Proc.devRef .tc main_v5) (outG (W5 m d main_v2) (W5 m d main_v3) (W5 m d main_v4))
def W7 (d : Dev nD) : Valuation τ sig (Elt F) := rO.result (W6 m d)

/-- The weights, one row per ray; the list of indices; the two tables; the result. -/
def weights (d : Dev nD) : S65536x128.Idx → F .f32 := shapeCast S65536x128 (m (d, Proc.devRef .tc main_arg0)) shapeCasts_S65536x128x1_S65536x128
def list (d : Dev nD) : S32x16x128.Idx → BitVec 32 := shapeCast S32x16x128 (indices (weights m d)) shapeCasts_S65536_S32x16x128
def starts (d : Dev nD) : S8388608.Idx → F .f32 := shapeCast S8388608 (m (d, Proc.devRef .tc main_arg1)) shapeCasts_S65536x128x1_S8388608
def ends (d : Dev nD) : S8388608.Idx → F .f32 := shapeCast S8388608 (m (d, Proc.devRef .tc main_arg2)) shapeCasts_S65536x128x1_S8388608
def result (d : Dev nD) : S65536x1.Idx → F .f32 := shapeCast S65536x1 (outG (list m d) (starts m d) (ends m d)) shapeCasts_S65536_S65536x1

/-- After the first reshape: the flat weights. -/
theorem W1_v0 (d : Dev nD) : W1 m d main_v0 = weights m d := StableHlo.reshape_result' ..

/-- After the TensorCore's call: the indices. -/
theorem W2_v1 (d : Dev nD) : W2 m d main_v1 = indices (weights m d) := by
  unfold W2; rw [W1_v0]; exact Function.update_self ..

/-- The TensorCore's call changes its result only. -/
theorem W2_ne (d : Dev nD) (b : Ref sig .tc) (h1 : b ≠ main_v1) : W2 m d b = W1 m d b :=
  Function.update_of_ne (fun e => h1 (Proc.devRef_injective _ e)) ..

/-- Until then every other buffer is as at launch. -/
theorem W2_arg (d : Dev nD) (b : Ref sig .tc) (h0 : b ≠ main_v0) (h1 : b ≠ main_v1) : W2 m d b = m (d, Proc.devRef .tc b) :=
  (W2_ne m d b h1).trans (StableHlo.reshape_result_ne _ _ _ _ _ _ _ h0)

/-- The list that the SparseCores read. -/
theorem W5_v2 (d : Dev nD) : W5 m d main_v2 = list m d := by
  unfold W5
  refine (StableHlo.reshape_result_ne _ _ _ _ _ _ _ (by decide)).trans ((StableHlo.reshape_result_ne _ _ _ _ _ _ _ (by decide)).trans ?_)
  refine (StableHlo.reshape_result' ..).trans ?_
  rw [W2_v1]; rfl

/-- The starts that they read. -/
theorem W5_v3 (d : Dev nD) : W5 m d main_v3 = starts m d := by
  unfold W5
  refine (StableHlo.reshape_result_ne _ _ _ _ _ _ _ (by decide)).trans ?_
  refine (StableHlo.reshape_result' ..).trans ?_
  rw [show rI.result (W2 m d) main_arg1 = W2 m d main_arg1 from StableHlo.reshape_result_ne _ _ _ _ _ _ _ (by decide), W2_arg m d main_arg1 (by decide) (by decide)]
  rfl

/-- The ends that they read. -/
theorem W5_v4 (d : Dev nD) : W5 m d main_v4 = ends m d := by
  unfold W5
  refine (StableHlo.reshape_result' ..).trans ?_
  rw [show rS.result (rI.result (W2 m d)) main_arg2 = rI.result (W2 m d) main_arg2 from StableHlo.reshape_result_ne _ _ _ _ _ _ _ (by decide),
    show rI.result (W2 m d) main_arg2 = W2 m d main_arg2 from StableHlo.reshape_result_ne _ _ _ _ _ _ _ (by decide), W2_arg m d main_arg2 (by decide) (by decide)]
  rfl

/-- At the end: the result. -/
theorem W7_v6 (d : Dev nD) : W7 m d main_v6 = result m d := by
  unfold W7
  refine (StableHlo.reshape_result' ..).trans ?_
  rw [show W6 m d main_v5 = _ from Function.update_self .., W5_v2, W5_v3, W5_v4]
  rfl

/-- An argument's buffer ends as it began. -/
theorem W7_arg (d : Dev nD) (b : Ref sig .tc) (h : ∀ x ∈ [main_v0, main_v1, main_v2, main_v3, main_v4, main_v5, main_v6], b ≠ x) :
    W7 m d b = m (d, Proc.devRef .tc b) := by
  unfold W7
  refine (StableHlo.reshape_result_ne _ _ _ _ _ _ _ (h _ (by simp))).trans ?_
  refine (Function.update_of_ne (fun e => h main_v5 (by simp) (Proc.devRef_injective _ e)) ..).trans ?_
  unfold W5
  refine (StableHlo.reshape_result_ne _ _ _ _ _ _ _ (h _ (by simp))).trans ((StableHlo.reshape_result_ne _ _ _ _ _ _ _ (h _ (by simp))).trans
    ((StableHlo.reshape_result_ne _ _ _ _ _ _ _ (h _ (by simp))).trans ?_))
  exact W2_arg m d b (h _ (by simp)) (h _ (by simp))

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What the TensorCore of `d` is dealt for its own call: the staging cells' state and the right to use them once. -/
abbrev G (d : Dev nD) : sProp 𝕄 :=
  iprop(Pipeline.cellsGhost (Pipeline.pin (pcfgs (F := F)) adm) EP 0 d ∗ Pipeline.toksInit (Pipeline.pin (pcfgs (F := F)) adm) EP 0 d)

abbrev PP : (K (F := F)).Pay (nD := nD) (Val := Elt F) (Name := ℕ) (U := UU) :=
  P (fun d => W5 m d main_v2) (fun d => W5 m d main_v3) (fun d => W5 m d main_v4) (fun d => W5 m d main_v5)

/-- The launch gives the handshakes and the staging cells their state. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb embR _ _) $$ HR
  icases H with ⟨HP, -⟩
  ihave HP := (show (BI.own (((Emb.inl : Emb UP (UP × Counters)).trans embR) (initOf (Pipeline.cells (Pipeline.pin (pcfgs (F := F)) adm) cellOf_inj)
      (Pipeline.launchToks (Pipeline.pin (pcfgs (F := F)) adm) cellOf_inj))) : sProp 𝕄)
    ⊢ BI.own (EP (F := F) (initOf (Pipeline.cells (Pipeline.pin (pcfgs (F := F)) adm) cellOf_inj)
      (Pipeline.launchToks (Pipeline.pin (pcfgs (F := F)) adm) cellOf_inj))) from by unfold EP; exact Entails.of_eq rfl) $$ HP
  imod (Pipeline.fund_ghost (Pipeline.pin (pcfgs (F := F)) adm) (EP (F := F)) cellOf_inj) $$ HP with ⟨Hc, Ht⟩
  imodintro
  isplitl [HH]; · iexact HH
  isplitl [Hc Ht]
  · rw [bigSep_sep']
    simp only [bigSep_univ_of_subsingleton (0 : Fin 1)]
    isplitl [Hc]
    · iexact Hc
    · iexact Ht
  rw [show (bigSep Finset.univ fun thr : Thread nD τ => bigSep Finset.univ fun q : Fin 1 => (PP (F := F) m).x q thr) = bigSep Finset.univ fun _ => BI.emp from
    bigSep_congr fun _ _ => bigSep_univ_of_subsingleton (0 : Fin 1)]
  rw [bigSep_emp_const]
  iempintro

/-! ## @main -/

/-- The TensorCore owes nothing at the level of no call. -/
theorem Otc_none (d : Dev nD) (n : ℕ) (g : GSem nD τ sig) : (K (F := F)).Otc (N := 1) d n g none = 0 := by
  by_contra h
  have h1 := SparseCore.Cfg.lev_of_Otc_pos (K := K (F := F)) (Nat.pos_of_ne_zero h)
  rw [(K (F := F)).lev_none] at h1
  omega

/-- What the TensorCore owes at the start. -/
abbrev O₀ (d : Dev nD) : CellTallies nD τ sig (HIx 1) := (K (F := F)).Otc (N := 1) d 0
/-- The contents before its call and after, by buffer. -/
abbrev Vpre (d : Dev nD) (b : Ref sig .tc) : Buf (Elt F) ((d : Thread nD τ).loc b) := W1 m d b
abbrev Vpost (d : Dev nD) (b : Ref sig .tc) : Buf (Elt F) ((d : Thread nD τ).loc b) := W2 m d b

/-- The TensorCore's call leaves the indices in its result. -/
theorem Vpost_out (d : Dev nD) : Vpost m d main_v1 = indexed (Vpre m) (O₀ (F := F)) 0 d := by
  rw [indexed_eq]; unfold Vpost W2; exact Function.update_self ..

/-- It leaves every other buffer. -/
theorem Vpost_ne (d : Dev nD) (b : Ref sig .tc) (h : b ≠ main_v1) : Vpost m d b = Vpre m d b := W2_ne m d b h

/-- The TensorCore's call, entered at the second valuation. -/
def region : Pipeline.RegionSeg (pcfgs (F := F)) adm (pdats (Vpre m) (O₀ (F := F)) 0) (none : HIx 1) defs₀ 𝒱₀ (K (F := F)).L (K (F := F)).lev 0 :=
  reg (Vpre m) (O₀ (F := F)) 0 (Vpost m) (fun c g => Otc_none c 0 g) (Vpost_out m) (Vpost_ne m)

/-- What the TensorCore's call takes. -/
theorem region_pre (d : Dev nD) : (region m).pre d = iprop(StableHlo.held (SparseCore.T d) (Pipeline.ucRefs τ sig) (W1 m d)
    ∗ ∃ W, ⌜(K (F := F)).WBelow (SparseCore.T d) W 0⌝ ∗ owes (SparseCore.T d) (O₀ (F := F) d) W) := by
  rw [← Pipeline.unscopedBufs_held d (W1 m d)]; rfl
/-- What it gives back. -/
theorem region_post (d : Dev nD) : (region m).post d = iprop(StableHlo.held (SparseCore.T d) (Pipeline.ucRefs τ sig) (W2 m d)
    ∗ ∃ W, ⌜(K (F := F)).WBelow (SparseCore.T d) W 0⌝ ∗ owes (SparseCore.T d) (O₀ (F := F) d) W) := by
  rw [← Pipeline.unscopedBufs_held d (W2 m d)]; rfl

set_option backward.isDefEq.respectTransparency.types false in
/-- The TensorCore's call, as @main's own body table answers it. -/
theorem region_wp (d : Dev nD) (Q : PUnit → sProp 𝕄) :
    iprop((iprop(boundary (SparseCore.T d) ∗ StableHlo.held (SparseCore.T d) (Pipeline.ucRefs τ sig) (W2 m d)
          ∗ ∃ W, ⌜(K (F := F)).WBelow (SparseCore.T d) W 0⌝ ∗ owes (SparseCore.T d) (O₀ (F := F) d) W) -∗ Q ⟨⟩)
        ∗ boundary (SparseCore.T d) ∗ StableHlo.held (SparseCore.T d) (Pipeline.ucRefs τ sig) (W1 m d)
        ∗ (∃ W, ⌜(K (F := F)).WBelow (SparseCore.T d) W 0⌝ ∗ owes (SparseCore.T d) (O₀ (F := F) d) W)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry (0 : Fin 1))) ())) Q := by
  refine .trans ?_ ((K (F := F)).wp_liftProg (D (F := F)) 𝒱 (SparseCore.T d) Set.univ none (Prog.lift (.customCall (Pipeline.entry (0 : Fin 1)) ())) Q)
  refine .trans ?_ (Pipeline.RegionSeg.wp (pcfgs (F := F)) adm (pdats (Vpre m) (O₀ (F := F)) 0) (none : HIx 1) cellOf_inj (EP (F := F)) defs₀ 𝒱₀
    (K (F := F)).L (K (F := F)).lev (region m) d none (fun _ h => nomatch h) (fun x => .ret x) Q)
  rw [region_pre, region_post]
  iintro ⟨Hk, Hb, Hu, HO, Hlv, Hcg, Htk⟩
  isplitl [Hk]
  · iintro ⟨Hb, Hu, HO⟩
    iapply (Entails.of_eq (wp_ret _ _ Set.univ PUnit.unit _).symm); imodintro
    iapply Hk
    isplitl [Hb]; · iexact Hb
    isplitl [Hu]; · iexact Hu
    iexact HO
  isplitl [Hb]; · iexact Hb
  isplitl [Hu HO]
  · isplitl [Hu]; · iexact Hu
    iexact HO
  isplitl [Hlv]; · iexact Hlv
  isplitl [Hcg]; · iexact Hcg
  iexact Htk

/-- One reshape of @main, from the buffers at `W` to the buffers at its result. -/
theorem reshape_wp (d : Dev nD) (W : Valuation τ sig (Elt F)) (op : HloOp τ sig (Elt F)) (hp) (hS : op.bufs ⊆ Pipeline.ucRefs τ sig) (hf : op.fresh = ∅)
    (Q : PUnit → sProp 𝕄) :
    iprop(boundary (SparseCore.T d) ∗ StableHlo.held (SparseCore.T d) (Pipeline.ucRefs τ sig) W
        ∗ (iprop(boundary (SparseCore.T d) ∗ StableHlo.held (SparseCore.T d) (Pipeline.ucRefs τ sig) (op.result W)) -∗ Q ⟨⟩))
      ⊢ wp frame (wpE ((K (F := F)).defs (D (F := F))) 𝒱 (SparseCore.T d) none) Set.univ (hlo hp op (fun _ => .ret ⟨⟩)) Q := by
  iintro ⟨Hb, Hu, Hk⟩
  iapply (StableHlo.wp_hlo_within 𝒱 (SparseCore.T d) none Set.univ (op := op) (S := Pipeline.ucRefs τ sig) (V := W) hS (hf := hf)) $$ [Hb Hu]
  · isplitl [Hb] <;> iassumption
  iintro H
  iapply (Entails.of_eq (wp_ret _ _ Set.univ PUnit.unit _).symm); imodintro
  iapply Hk; iexact H

/-- What the end keeps: the arguments as they were and the result. -/
abbrev FIN (d : Dev nD) : sProp 𝕄 :=
  iprop(((SparseCore.T d).loc main_arg0 ↦{fullShare} W7 m d main_arg0) ∗ ((SparseCore.T d).loc main_arg1 ↦{fullShare} W7 m d main_arg1)
    ∗ ((SparseCore.T d).loc main_arg2 ↦{fullShare} W7 m d main_arg2) ∗ ((SparseCore.T d).loc main_v6 ↦{fullShare} W7 m d main_v6))

/-- The main program's buffers, one by one. -/
theorem unscopedBufs_eq (d : Dev nD) (W : (b : Ref sig .tc) → Buf (Elt F) ((d.tc : Thread nD τ).loc b)) :
    (unscopedBufs d W : sProp 𝕄) = iprop(((d.tc : Thread nD τ).loc main_arg0 ↦{fullShare} W main_arg0) ∗ ((d.tc : Thread nD τ).loc main_arg1 ↦{fullShare} W main_arg1)
      ∗ ((d.tc : Thread nD τ).loc main_arg2 ↦{fullShare} W main_arg2) ∗ ((d.tc : Thread nD τ).loc main_v6 ↦{fullShare} W main_v6)
      ∗ ((d.tc : Thread nD τ).loc main_v0 ↦{fullShare} W main_v0) ∗ ((d.tc : Thread nD τ).loc main_v1 ↦{fullShare} W main_v1)
      ∗ ((d.tc : Thread nD τ).loc main_v2 ↦{fullShare} W main_v2) ∗ ((d.tc : Thread nD τ).loc main_v3 ↦{fullShare} W main_v3)
      ∗ ((d.tc : Thread nD τ).loc main_v4 ↦{fullShare} W main_v4) ∗ ((d.tc : Thread nD τ).loc main_v5 ↦{fullShare} W main_v5)) := by
  unfold unscopedBufs
  rw [show (Finset.univ.filter fun b : Ref sig .tc => ¬ b.isScoped)
      = {main_arg0, main_arg1, main_arg2, main_v6, main_v0, main_v1, main_v2, main_v3, main_v4, main_v5} by decide]
  repeat rw [SparseCore.bigSep_insert' (by decide)]
  rw [bigSep_singleton]

/-- The SparseCores' call changes its output only. -/
theorem W6_ne (d : Dev nD) (b : Ref sig .tc) (h : b ≠ main_v5) : W6 m d b = W5 m d b :=
  Function.update_of_ne (fun e => h (Proc.devRef_injective _ e)) ..
/-- The SparseCores' output. -/
theorem W6_v5 (d : Dev nD) : W6 m d main_v5 = outG (W5 m d main_v2) (W5 m d main_v3) (W5 m d main_v4) := Function.update_self ..

/-- The buffers at the SparseCores' operands, dealt to them and the rest; -/
theorem deal_out (d : Dev nD) : (StableHlo.held (SparseCore.T d) (Pipeline.ucRefs τ sig) (W5 m d) : sProp 𝕄)
    ⊢ iprop(whole d (W5 m d main_v2) (W5 m d main_v3) (W5 m d main_v4) (W5 m d main_v5)
        ∗ (whole d (W5 m d main_v2) (W5 m d main_v3) (W5 m d main_v4) (outG (W5 m d main_v2) (W5 m d main_v3) (W5 m d main_v4))
          -∗ StableHlo.held (SparseCore.T d) (Pipeline.ucRefs τ sig) (W6 m d))) := by
  rw [← Pipeline.unscopedBufs_held d (W5 m d), ← Pipeline.unscopedBufs_held d (W6 m d), unscopedBufs_eq, unscopedBufs_eq]
  simp only [W6_v5, W6_ne m d main_arg0 (by decide), W6_ne m d main_arg1 (by decide), W6_ne m d main_arg2 (by decide), W6_ne m d main_v6 (by decide),
    W6_ne m d main_v0 (by decide), W6_ne m d main_v1 (by decide), W6_ne m d main_v2 (by decide), W6_ne m d main_v3 (by decide), W6_ne m d main_v4 (by decide)]
  iintro ⟨H0, H1, H2, H6, Hv0, Hv1, Hv2, Hv3, Hv4, Hv5⟩
  isplitl [Hv2 Hv3 Hv4 Hv5]
  · unfold whole
    isplitl [Hv2]; · iexact Hv2
    isplitl [Hv3]; · iexact Hv3
    isplitl [Hv4]; · iexact Hv4
    iexact Hv5
  unfold whole
  iintro ⟨Hv2, Hv3, Hv4, Hv5⟩
  isplitl [H0]; · iexact H0
  isplitl [H1]; · iexact H1
  isplitl [H2]; · iexact H2
  isplitl [H6]; · iexact H6
  isplitl [Hv0]; · iexact Hv0
  isplitl [Hv1]; · iexact Hv1
  isplitl [Hv2]; · iexact Hv2
  isplitl [Hv3]; · iexact Hv3
  isplitl [Hv4]; · iexact Hv4
  iexact Hv5

/-- and what the end keeps of them. -/
theorem keep (d : Dev nD) : (StableHlo.held (SparseCore.T d) (Pipeline.ucRefs τ sig) (W7 m d) : sProp 𝕄) ⊢ FIN m d := by
  rw [← Pipeline.unscopedBufs_held d (W7 m d), unscopedBufs_eq]
  iintro ⟨H0, H1, H2, H6, -⟩
  isplitl [H0]; · iexact H0
  isplitl [H1]; · iexact H1
  isplitl [H2]; · iexact H2
  iexact H6

/-- The handshake state at the start, opened at what is owed. -/
theorem tcSt_open (d : Dev nD) : ((K (F := F)).tcSt EH d 0 : sProp 𝕄)
    ⊢ iprop((∃ W, ⌜(K (F := F)).WBelow (SparseCore.T d) W 0⌝ ∗ owes (SparseCore.T d) (O₀ (F := F) d) W)
      ∗ ((∃ W, ⌜(K (F := F)).WBelow (SparseCore.T d) W 0⌝ ∗ owes (SparseCore.T d) (O₀ (F := F) d) W) -∗ (K (F := F)).tcSt EH d 0)) := by
  unfold SparseCore.Cfg.tcSt
  iintro ⟨HO, Hr⟩
  isplitl [HO]; · iexact HO
  iintro HO
  isplitl [HO]; · iexact HO
  iexact Hr

set_option backward.isDefEq.respectTransparency.types false in
/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (W0 m d) from
    Pipeline.unscopedBufs_held d (W0 m d)]
  simp only [main, wp_bind, wp_pure]
  iintro ⟨#Hctx, Hst, ⟨Hb, Hu, Hts, -⟩, HG⟩
  ihave #Hlv := (SparseCore.Cfg.ctx_levAts κ) $$ Hctx
  iapply (reshape_wp d (W0 m d) rW rfl (Pipeline.sub_ucRefs _ (StableHlo.reshape_bufs_sub ..)) rfl _)
  isplitl [Hb]; · iexact Hb
  isplitl [Hu]; · iexact Hu
  iintro ⟨Hb, Hu⟩
  ihave H := (tcSt_open d) $$ Hst
  icases H with ⟨HO, Hst⟩
  iapply (region_wp m d _)
  isplitr [Hb Hu HO HG]
  rotate_left
  · isplitl [Hb]; · iexact Hb
    isplitl [Hu]; · iexact Hu
    isplitl [HO]; · iexact HO
    isplitr [HG]; · iexact Hlv
    iexact HG
  iintro ⟨Hb, Hu, HO⟩
  ihave Hst := Hst $$ HO
  iapply (reshape_wp d (W2 m d) rI rfl (Pipeline.sub_ucRefs _ (StableHlo.reshape_bufs_sub ..)) rfl _)
  isplitl [Hb]; · iexact Hb
  isplitl [Hu]; · iexact Hu
  iintro ⟨Hb, Hu⟩
  iapply (reshape_wp d (rI.result (W2 m d)) rS rfl (Pipeline.sub_ucRefs _ (StableHlo.reshape_bufs_sub ..)) rfl _)
  isplitl [Hb]; · iexact Hb
  isplitl [Hu]; · iexact Hu
  iintro ⟨Hb, Hu⟩
  iapply (reshape_wp d (rS.result (rI.result (W2 m d))) rE rfl (Pipeline.sub_ucRefs _ (StableHlo.reshape_bufs_sub ..)) rfl _)
  isplitl [Hb]; · iexact Hb
  isplitl [Hu]; · iexact Hu
  iintro ⟨Hb, Hu⟩
  ihave Hu := (show (StableHlo.held (SparseCore.T d) (Pipeline.ucRefs τ sig) (rE.result (rS.result (rI.result (W2 m d)))) : sProp 𝕄)
    ⊢ StableHlo.held (SparseCore.T d) (Pipeline.ucRefs τ sig) (W5 m d) from Entails.of_eq rfl) $$ Hu
  ihave H := (deal_out m d) $$ Hu
  icases H with ⟨Hw, Hback⟩
  iapply ((K (F := F)).wp_run (D (F := F)) 𝒱 (EH := EH) (P := PP m) κ d 0)
  isplitr; · iexact Hctx
  isplitl [Hst]; · iexact Hst
  isplitl [Hw]
  · iapply (Entails.of_eq (st_eq _ _ _ _ d).symm); iexact Hw
  iintro ⟨Hst, Hw⟩
  ihave Hw := (Entails.of_eq (dn_eq _ _ _ _ d)) $$ Hw
  ihave Hu := Hback $$ Hw
  iapply (reshape_wp d (W6 m d) rO rfl (Pipeline.sub_ucRefs _ (StableHlo.reshape_bufs_sub ..)) rfl _)
  isplitl [Hb]; · iexact Hb
  isplitl [Hu]; · iexact Hu
  iintro ⟨Hb, Hu⟩
  imodintro
  isplitl [Hst]; · iexact Hst
  isplitl [Hu]; · iapply (keep m d); iexact Hu
  isplitl [Hb]; · iexact Hb
  iexact Hts

/-! ## The run -/

/-- What a final memory shows on device `d`. -/
def fq (d : Dev nD) (s : Phys nD τ sig (Elt F)) : Prop :=
  ((s.mem.mem ((SparseCore.T d).loc main_v6) = result m d)
    ∧ s.mem.mem ((SparseCore.T d).loc main_arg0) = m ((SparseCore.T d).loc main_arg0)
    ∧ s.mem.mem ((SparseCore.T d).loc main_arg1) = m ((SparseCore.T d).loc main_arg1)
    ∧ s.mem.mem ((SparseCore.T d).loc main_arg2) = m ((SparseCore.T d).loc main_arg2))

set_option maxRecDepth 16384 in
theorem hfin (d : Dev nD) (s' : Phys nD τ sig (Elt F)) : iprop(FIN m d ∗ SI s') ⊢ (⌜fq m d s'⌝ : sProp 𝕄) := by
  iintro ⟨⟨H0, H1, H2, H6⟩, HSI⟩
  ihave H := (persistent_entails_right (SI_pointsTo_agree (st := s') (ℓ := (SparseCore.T d).loc main_arg0) (I := Finset.univ) (q := fullShare) (f := W7 m d main_arg0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := W7 m d main_arg1))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := W7 m d main_arg2))) $$ [HSI H2]
  · isplitl [HSI] <;> iassumption
  icases H with ⟨%h2, HSI, -⟩
  ihave H := (SI_pointsTo_agree (st := s') (ℓ := (SparseCore.T d).loc main_v6) (I := Finset.univ) (q := fullShare) (f := W7 m d main_v6)) $$ [HSI H6]
  · isplitl [HSI] <;> iassumption
  icases H with %h6
  ipureintro
  exact ⟨(funext fun i => h6 i (Finset.mem_univ i)).trans (W7_v6 m d),
    (funext fun i => h0 i (Finset.mem_univ i)).trans (W7_arg m d main_arg0 (by decide)),
    (funext fun i => h1 i (Finset.mem_univ i)).trans (W7_arg m d main_arg1 (by decide)),
    (funext fun i => h2 i (Finset.mem_univ i)).trans (W7_arg m d main_arg2 (by decide))⟩

/-- What every run of the program ends in: the result and the arguments as launched, the semaphores at zero. -/
def QC : PUnit × MemSt nD τ sig (Elt F) → Prop := fun r =>
  (∀ d : Dev nD, (r.2.mem ((SparseCore.T d).loc main_v6) = result m d)
    ∧ r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)) ∧ r.2.sem = fun _ => 0

/-- The program runs to its result, if every word of the list names an element of the tables. -/
theorem run_main (hin : ∀ d i, BitVec.toNat (w := 32) (list m d i) < 8388608) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ facts (fun d i => by rw [W5_v2]; exact hin d i))
    (fun q _ => match q with | 0 => SparseCore.Cfg.VecSplit.of_plain (vecSplit _ _ _ _))
    m ρ main G (FIN m) (u₀ (F := F)) (sep_elim_left.trans (hu₀ m)) (hmain m ρ) (fq m) (hfin m) (QC m) (fun _ h hz => ⟨h, hz⟩)

end Cert.Proof.Main

end
-- ==== Proof.Count.lean ====
/-
  THE COUNT: a ray's index is 128 times the ray plus the number, at most 127, of its cumulative weights that lie below one
  half. The kernel counts by adding ones and zeros as floats; what it needs of a float for that is gathered in `Counts`.
  From it follow each point's words, the whole array of indices, and that every index lies inside the table.
-/
module

public import proofs.«01_k».proof.Proof.Main
public import Idealize.ShloMosaic.PureOps.Reduce

@[expose] public section

noncomputable section

namespace Cert.Proof.Count

open Cert.KernelIdeal Cert.KernelIdeal.Gen Cert.Proof.Setup Cert.Proof.Region

open Idealize.ShloMosaic

variable {F : FTy → Type} [FloatOps F]

/-- The place of sample `k` of ray `r` in a block that holds a ray per column. -/
def at2 (k : Fin 128) (r : Fin 4096) : S128x4096.Idx := fun | 0 => k | 1 => r

/-- The number of marked samples of the ray in column `r`. -/
def count (mask : IVec S128x4096 1) (r : Fin 4096) : ℕ := (Finset.univ.filter fun k : Fin 128 => mask (at2 k r) = 1#1).card

/-- A count is at most the number of samples. -/
theorem count_le (mask : IVec S128x4096 1) (r : Fin 4096) : count mask r ≤ 128 :=
  (Finset.card_filter_le _ _).trans (by simp)

/-- The samples of a column are the places that the reduction folds there. -/
theorem fiber_eq (j : S4096.Idx) :
    (Finset.univ.filter fun i : S128x4096.Idx => reduces_S128x4096_S4096.drop i = j) = Finset.univ.image fun k : Fin 128 => at2 k (j 0) := by
  rw [Shape.Reduces.filter_drop_eq_image_lift]
  congr 1
  funext k a
  match a with
  | 0 => exact Fin.ext rfl
  | 1 => exact Fin.ext rfl

/-- The places of one ray are distinct. -/
theorem at2_injective (r : Fin 4096) : Function.Injective fun k : Fin 128 => at2 k r := fun a b h => congrFun h (0 : Fin 2)

/-- A column's marks summed over the places that the reduction folds there. -/
theorem fiber_sum (mask : IVec S128x4096 1) (j : S4096.Idx) :
    (Finset.univ.filter fun i : S128x4096.Idx => reduces_S128x4096_S4096.drop i = j).sum (fun i => if mask i = 1#1 then 1 else 0) = count mask (j 0) := by
  rw [fiber_eq, Finset.sum_image fun a _ b _ h => at2_injective (j 0) h]
  unfold count
  rw [Finset.card_filter]

/-- One for each marked sample and zero for each other one, added along each column. -/
abbrev total (mask : IVec S128x4096 1) : FVec F S4096 .f32 :=
  multiReduction .add [0] S4096 (select mask (broadcast S128x4096 (Scalar.ofBits .f32 0x3F800000#32 : F .f32)) (broadcast S128x4096 (Scalar.ofBits .f32 0x00000000#32 : F .f32)))
    0x00000000#32 reduces_S128x4096_S4096 (.inl rfl) rfl

/-- What counting in floats needs: small naturals are floats, a column's total is its count, the smaller of a count and
    127.0 is the natural's, and a count converts back to the integer it is. -/
structure Counts (F : FTy → Type) [FloatOps F] where
  /-- The float of a natural. -/
  nat : ℕ → F .f32
  /-- A column's total is the float of its count. -/
  total_eq : ∀ (mask : IVec S128x4096 1) (j : S4096.Idx), total (F := F) mask j = nat (count mask (j 0))
  /-- The smaller of a count and 127.0. -/
  min_eq : ∀ a : ℕ, a ≤ 128 → FloatOps.minimumf (nat a) (Scalar.ofBits .f32 0x42FE0000#32 : F .f32) = nat (min a 127)
  /-- A count as an integer. -/
  toInt_eq : ∀ a : ℕ, a ≤ 128 → FloatOps.fptosi 32 (nat a) = BitVec.ofNat 32 a

/-- The first block's totals are those of its comparisons, computed as the second block's are. -/
theorem pay2_eq (v : S4096x128.Idx → F .f32) : k0_pay2 v = total (k0_pay3 v) := rfl

/-- The count of ray `y` of a point: in the first block below 4096, in the second from there on. -/
def pick (a b : S4096x128.Idx → F .f32) (y : Fin 8192) : ℕ :=
  if h : y.val < 4096 then count (k0_pay3 a) ⟨y.val, h⟩ else count (k0_pay3 b) ⟨y.val - 4096, by omega⟩

/-- The count picked is at most the number of samples. -/
theorem pick_le (a b : S4096x128.Idx → F .f32) (y : Fin 8192) : pick a b y ≤ 128 := by
  unfold pick; split <;> exact count_le _ _

/-- The two blocks' totals, one after the other, are the floats of the counts. -/
theorem both_eq (C : Counts F) (a b : S4096x128.Idx → F .f32) (y : S8192.Idx) :
    concatenate S8192 0 [⟨S4096, total (k0_pay3 a)⟩, ⟨S4096, total (k0_pay3 b)⟩] concatenates_S4096_S4096_S8192_d0 y = C.nat (pick a b ⟨(y 0).val, (y 0).isLt⟩) := by
  have hy : (y 0).val < 8192 := (y 0).isLt
  unfold pick
  by_cases h : (y 0).val < 4096
  · rw [dif_pos h, concatenate_pair_apply_left (s₁ := S4096) (s₂ := S4096) 0 (total (k0_pay3 a)) (total (k0_pay3 b)) concatenates_S4096_S4096_S8192_d0 y rfl
      (fun | 0 => ⟨(y 0).val, h⟩) (fun | 0 => rfl), C.total_eq]
    rfl
  · rw [dif_neg h, concatenate_pair_apply_right (s₁ := S4096) (s₂ := S4096) 0 (total (k0_pay3 a)) (total (k0_pay3 b)) concatenates_S4096_S4096_S8192_d0 y rfl rfl
      (fun | 0 => ⟨(y 0).val - 4096, show _ < 4096 by omega⟩) (fun | 0 => fun h => absurd rfl h) (show (y 0).val - 4096 + 4096 = (y 0).val by omega), C.total_eq]
    rfl

/-- The ray's number inside its point. -/
theorem lane (y : S8192.Idx) :
    shapeCast S8192 (iota .tc S1x8192 32 [1] iota_S1x8192_d1_w32) shapeCasts_S1x8192_S8192 y = BitVec.ofNat 32 (y 0).val := by
  rw [shapeCast_apply _ _ y (fun | 0 => (0 : Fin 1) | 1 => y 0 : S1x8192.Idx) (by
    rw [Shape.rowMajor_val_two, Shape.rowMajor_val_one]; show 0 * 8192 + (y 0).val = _; omega)]
  unfold iota
  simp only [List.foldl_cons, List.foldl_nil, Nat.zero_mul, Nat.zero_add]

/-- The word of ray `y` of point `t`. -/
theorem words_eq (C : Counts F) (t : ℕ) (a b : S4096x128.Idx → F .f32) (y : S8192.Idx) :
    words (BitVec.ofNat 32 t) a b y = BitVec.ofNat 32 ((t * 8192 + (y 0).val) * 128 + min (pick a b ⟨(y 0).val, (y 0).isLt⟩) 127) := by
  have e : words (BitVec.ofNat 32 t) a b y
      = (BitVec.ofNat 32 t * 8192#32 + shapeCast S8192 (iota .tc S1x8192 32 [1] iota_S1x8192_d1_w32) shapeCasts_S1x8192_S8192 y) * 128#32
        + FloatOps.fptosi 32 (FloatOps.minimumf (concatenate S8192 0 [⟨S4096, total (k0_pay3 a)⟩, ⟨S4096, total (k0_pay3 b)⟩] concatenates_S4096_S4096_S8192_d0 y)
            (Scalar.ofBits .f32 0x42FE0000#32 : F .f32)) := rfl
  rw [e, both_eq C, lane, C.min_eq _ (pick_le a b _), C.toInt_eq _ (by omega)]
  rw [BitVec.ofNat_add, BitVec.ofNat_mul, BitVec.ofNat_add, BitVec.ofNat_mul]

/-- The count of ray `r` of the whole array. -/
def cnt (f : S65536x128.Idx → F .f32) (r : Fin 65536) : ℕ :=
  pick (rows f (r.val / 8192) 0 (by omega) (by decide)) (rows f (r.val / 8192) 1 (by omega) (by decide)) ⟨r.val % 8192, Nat.mod_lt _ (by decide)⟩

/-- The index of ray `r`. -/
theorem indices_eq (C : Counts F) (f : S65536x128.Idx → F .f32) (r : S65536.Idx) :
    indices f r = BitVec.ofNat 32 ((r 0).val * 128 + min (cnt f ⟨(r 0).val, (r 0).isLt⟩) 127) := by
  unfold indices
  rw [words_eq C]
  have h : (r 0).val / 8192 * 8192 + (r 0).val % 8192 = (r 0).val := by omega
  show BitVec.ofNat 32 (((r 0).val / 8192 * 8192 + (r 0).val % 8192) * 128 + _) = _
  rw [h]
  rfl

/-- A ray's index as a number: inside the table of 8388608 samples. -/
theorem indices_toNat (C : Counts F) (f : S65536x128.Idx → F .f32) (r : S65536.Idx) :
    (indices f r).toNat = (r 0).val * 128 + min (cnt f ⟨(r 0).val, (r 0).isLt⟩) 127 := by
  have : (r 0).val < 65536 := (r 0).isLt
  rw [indices_eq C, BitVec.toNat_ofNat, Nat.mod_eq_of_lt (by omega)]

/-- Every index names a word of the tables. -/
theorem indices_lt (C : Counts F) (f : S65536x128.Idx → F .f32) (r : S65536.Idx) : (indices f r).toNat < 8388608 := by
  have : (r 0).val < 65536 := (r 0).isLt
  rw [indices_toNat C]; omega

variable [∀ e, Nonempty (Elt F e)] (m : (ℓ : Loc nD τ sig) → Buf (Elt F) ℓ)

/-- Every word of the list that the vector subcores read lies inside the table. -/
theorem list_lt (C : Counts F) (d : Dev nD) (i : S32x16x128.Idx) : BitVec.toNat (w := 32) (Main.list m d i) < 8388608 := indices_lt C _ _

end Cert.Proof.Count

end

end
-- ==== Proof.CountBits.lean ====
/-
  THE COUNT IN BIT PATTERNS: a reduction of f32 ones and zeros whose sum is below 2²⁴ is the pattern of that sum, so the
  kernel counts exactly at the machine's own floats too.
-/
module

public import proofs.«01_k».proof.Proof.Count
public import Idealize.ShloMosaic.Lib.NatWordsOrder

@[expose] public section

noncomputable section

namespace Cert.Proof.Count

open Cert.KernelIdeal Cert.KernelIdeal.Gen

open Idealize.ShloMosaic

/-- The pattern of 1.0. -/
theorem one_bits : (Scalar.ofBits .f32 0x3F800000#32 : Bits .f32) = Bits.f32OfNat 1 := by rw [Bits.f32OfNat_eq 1 (by decide)]; decide +kernel

/-- The pattern of 127.0. -/
theorem top_bits : (Scalar.ofBits .f32 0x42FE0000#32 : Bits .f32) = Bits.f32OfNat 127 := by rw [Bits.f32OfNat_eq 127 (by decide)]; decide +kernel

/-- Counting in f32 bit patterns. -/
def bits : Counts Bits where
  nat := Bits.f32OfNat
  total_eq mask j := by
    have hs := fiber_sum mask j
    have hle := count_le mask (j 0)
    have h := Bits.multiReduction_add_nat [0] reduces_S128x4096_S4096
      (select mask (broadcast S128x4096 (Scalar.ofBits .f32 0x3F800000#32 : Bits .f32)) (broadcast S128x4096 (Scalar.ofBits .f32 0x00000000#32 : Bits .f32))) j
      (fun i => if mask i = 1#1 then 1 else 0)
      (fun i _ => by
        show Bits.natOfF32? (Scalar.select (mask i) _ _) = _
        unfold Scalar.select
        by_cases hm : mask i = 1#1
        · rw [if_pos hm, if_pos (show mask i = 1 from hm)]; exact (congrArg Bits.natOfF32? one_bits).trans (Bits.natOfF32?_f32OfNat 1 (by decide))
        · rw [if_neg hm, if_neg (show ¬mask i = 1 from hm)]; exact (congrArg Bits.natOfF32? Bits.f32OfNat_zero.symm).trans (Bits.natOfF32?_f32OfNat 0 (by decide)))
      (by unfold Bits.reduceFiber; rw [hs]; omega)
    exact h.trans (by unfold Bits.reduceFiber; rw [hs])
  min_eq a ha := by
    rw [top_bits]
    exact Bits.minf32_nat (a := a) (b := 127) (by omega) (by decide)
  toInt_eq a ha := Bits.fptosi32_nat a (by omega)

end Cert.Proof.Count

end

end
-- ==== Proof.CountIdeal.lean ====
/-
  THE COUNT IN EXACT NUMBERS: the sum of ones and zeros is the count, and truncation gives a natural back.
-/
module

public import proofs.«01_k».proof.Proof.Count
public import Idealize.ShloMosaic.PureOps.Ideal.Laws

@[expose] public section

noncomputable section

namespace Cert.Proof.Count

open Cert.KernelIdeal Cert.KernelIdeal.Gen

open Idealize.ShloMosaic

/-- The pattern of 1.0 is that number. -/
theorem one_eq : (Scalar.ofBits .f32 0x3F800000#32 : Ideal .f32) = ((1 : ℝ) : EReal) := by
  show Ideal.ofBits .f32 0x3F800000#32 = _
  simp [Ideal.ofBits, Ideal.ieee, -EReal.coe_mul]; norm_num

/-- The pattern of 0.0 is that number. -/
theorem zero_eq : (Scalar.ofBits .f32 0x00000000#32 : Ideal .f32) = ((0 : ℝ) : EReal) := by
  show Ideal.ofBits .f32 0x00000000#32 = _
  simp [Ideal.ofBits, Ideal.ieee, -EReal.coe_mul]

/-- The pattern of 127.0 is that number. -/
theorem top_eq : (Scalar.ofBits .f32 0x42FE0000#32 : Ideal .f32) = ((127 : ℝ) : EReal) := by
  show Ideal.ofBits .f32 0x42FE0000#32 = _
  simp [Ideal.ofBits, Ideal.ieee, -EReal.coe_mul]; norm_num

/-- A sum of naturals, as extended reals. -/
theorem coe_sum {ι : Type} (s : Finset ι) (n : ι → ℕ) : (s.sum fun i => (((n i : ℕ) : ℝ) : EReal)) = (((s.sum n : ℕ) : ℝ) : EReal) := by
  classical
  induction s using Finset.induction_on with
  | empty => simp
  | insert a s ha ih => rw [Finset.sum_insert ha, Finset.sum_insert ha, ih, Nat.cast_add, EReal.coe_add]

/-- Counting in exact numbers. -/
def ideal : Counts Ideal where
  nat n := ((n : ℝ) : EReal)
  total_eq mask j := by
    rw [← fiber_sum mask j, ← coe_sum]
    show (Finset.univ.filter fun i : S128x4096.Idx => reduces_S128x4096_S4096.drop i = j).sum _ = _
    refine Finset.sum_congr rfl fun i _ => ?_
    show Scalar.select (mask i) (Scalar.ofBits .f32 0x3F800000#32 : Ideal .f32) (Scalar.ofBits .f32 0x00000000#32 : Ideal .f32) = _
    rw [one_eq, zero_eq]
    unfold Scalar.select
    by_cases hm : mask i = 1#1
    · rw [if_pos hm, if_pos (show mask i = 1 from hm)]; simp
    · rw [if_neg hm, if_neg (show ¬mask i = 1 from hm)]; simp
  min_eq a _ := by
    rw [top_eq]
    show min ((a : ℝ) : EReal) ((127 : ℝ) : EReal) = (((min a 127 : ℕ) : ℝ) : EReal)
    rcases Nat.le_total a 127 with h | h
    · rw [Nat.min_eq_left h]; exact min_eq_left (by exact_mod_cast h)
    · rw [Nat.min_eq_right h]; exact min_eq_right (by exact_mod_cast h)
  toInt_eq a ha := by
    show Ideal.fptosi 32 ((a : ℝ) : EReal) = _
    unfold Ideal.fptosi
    show BitVec.ofInt 32 (max _ (min _ (if (0 : ℝ) ≤ (a : ℝ) then ⌊(a : ℝ)⌋ else ⌈(a : ℝ)⌉))) = _
    rw [if_pos (Nat.cast_nonneg a), Int.floor_natCast]
    have : max (-((2 ^ (32 - 1) : ℕ) : ℤ)) (min (((2 ^ (32 - 1) : ℕ) : ℤ) - 1) (a : ℤ)) = (a : ℤ) := by
      have h2 : ((2 ^ (32 - 1) : ℕ) : ℤ) = 2147483648 := by norm_num
      rw [h2]; omega
    rw [this]
    rfl

end Cert.Proof.Count

end

end
-- ==== Proof.Frames.lean ====
/-
  THE FRAMES: the three programs run to an end from every memory, with the arguments unchanged and every counter back at
  zero. The kernel's and its exact reading's are one run, taken at the two kinds of float.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_weights_finite
public import proofs.«01_k».proof.Proof.CountBits
public import proofs.«01_k».proof.Proof.CountIdeal

@[expose] public section

noncomputable section

namespace Cert.Proof.Frames

open Idealize.ShloMosaic Idealize.SL.Sem

/-- The kernel's bodies are its exact reading's: the two have one text. -/
theorem defs₀_eq : Cert.Kernel.defs₀ (F := Bits) = Cert.KernelIdeal.defs₀ (F := Bits) := by
  funext c l a
  match c, l, a with
  | .tc, 0, (_, _) => rfl
  | .tc, 1, _ => rfl
  | .scScalar _, 0, _ => rfl
  | .scScalar _, 1, _ => rfl
  | .scVector _ _, 0, _ => rfl
  | .scVector _ _, 1, _ => rfl

/-- So are its body tables. -/
theorem defs_eq : Cert.Kernel.defs (F := Bits) = Cert.KernelIdeal.defs (F := Bits) :=
  congrArg (fun d => Cert.KernelIdeal.sc.defs (Pipeline.defs Cert.KernelIdeal.pcfgs d)) defs₀_eq

/-- The kernel, in bit patterns. -/
theorem kernel : Cert.quiescent_Kernel := fun m ρ _ => by
  rw [defs_eq]
  have h := (θ_run (Cert.KernelIdeal.defs (F := Bits)) _ _).mono
    (fun r (h : Main.QC (F := Bits) m r) => (⟨fun d => (h.1 d).2, h.2⟩ :
      (∀ c : Dev Cert.Kernel.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0))
    (Main.run_main (F := Bits) m ρ (Count.list_lt m Count.bits))
  exact h

/-- The kernel, in exact numbers. -/
theorem kernelIdeal : Cert.quiescent_KernelIdeal := fun m ρ _ =>
  (θ_run Cert.KernelIdeal.defs _ _).mono (fun _ h => ⟨fun d => (h.1 d).2, h.2⟩)
    (Main.run_main (F := Ideal) m ρ (Count.list_lt m Count.ideal))

/-- The reference, in exact numbers: it has no counter. -/
theorem referenceIdeal : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

/-- The kernel's frame holds in particular where the weights are finite. -/
theorem kernelIdeal_finite : Cert.quiescent_KernelIdeal_pre_weights_finite := fun m ρ _ => kernelIdeal m ρ trivial

/-- The reference's frame holds in particular where the weights are finite. -/
theorem referenceIdeal_finite : Cert.quiescent_ReferenceIdeal_pre_weights_finite := fun m ρ _ => referenceIdeal m ρ trivial

end Cert.Proof.Frames

end

end
-- ==== Proof.Prefix.lean ====
/-
  PREFIX SUMS: a ray's cumulative weights in exact numbers, and the number of them below one half. Both programs compute
  these two; here they are stated once, for neither.
-/
module

public import Idealize.ShloMosaic.PureOps.Ideal.Laws
public import Mathlib.Algebra.BigOperators.Fin

@[expose] public section

noncomputable section

namespace Cert.Proof.Prefix

open Idealize.ShloMosaic
open scoped BigOperators

/-- The sum of the first samples of a ray, up to sample `k` and with it. -/
def prefixSum (f : Fin 128 → EReal) (k : Fin 128) : EReal := ∑ i : Fin 128, if i ≤ k then f i else 0

/-- One half, as both programs spell it. -/
abbrev oneHalf : EReal := Ideal.ofBits .f32 0x3F000000#32

/-- The number of a ray's cumulative weights below one half. -/
def below (f : Fin 128 → EReal) : ℕ := (Finset.univ.filter fun k : Fin 128 => Ideal.cmp .olt (prefixSum f k) oneHalf = 1#1).card

/-- A count is at most the number of samples. -/
theorem below_le (f : Fin 128 → EReal) : below f ≤ 128 := (Finset.card_filter_le _ _).trans (by simp)

/-- A left fold that adds a term per element adds the terms' sum. -/
theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- Over all the positions of a range, the terms' sum. -/
theorem foldl_finRange (n : ℕ) (g : Fin n → EReal) (v : EReal) : (List.finRange n).foldl (fun r i => r + g i) v = v + ∑ i, g i := by
  rw [foldl_add, Fin.sum_univ_def]

/-- A window of 128 positions that ends at `k`, zero where it starts before the ray, sums to the prefix sum at `k`. -/
theorem window_sum (f : Fin 128 → EReal) (k : Fin 128) (g : Fin 128 → EReal)
    (h1 : ∀ w : Fin 128, ∀ h : 127 ≤ k.val + w.val, g w = f ⟨k.val + w.val - 127, by omega⟩)
    (h0 : ∀ w : Fin 128, k.val + w.val < 127 → g w = 0) : ∑ w, g w = prefixSum f k := by
  unfold prefixSum
  rw [← Equiv.sum_comp (Equiv.addRight (k + 1)) fun i => if i ≤ k then f i else 0]
  refine Finset.sum_congr rfl fun w _ => ?_
  have hv : (w + (k + 1)).val = (w.val + (k.val + 1)) % 128 := by rw [Fin.val_add, Fin.val_add, Nat.add_mod_mod]; rfl
  show g w = if w + (k + 1) ≤ k then f (w + (k + 1)) else 0
  by_cases h : 127 ≤ k.val + w.val
  · have e : w + (k + 1) = ⟨k.val + w.val - 127, by omega⟩ := Fin.ext (by rw [hv]; show _ = k.val + w.val - 127; omega)
    rw [e, if_pos (Fin.le_def.mpr (show k.val + w.val - 127 ≤ k.val by omega)), h1 w h]
  · rw [h0 w (by omega), if_neg]
    intro hle
    have : (w + (k + 1)).val ≤ k.val := hle
    rw [hv] at this; omega

end Cert.Proof.Prefix

end

end
-- ==== Proof.Cumulative.lean ====
/-
  THE KERNEL'S CUMULATIVE WEIGHTS in exact numbers: of finite weights the first part of the split is the weight and the
  other two are zero, so the three products with the triangle of ones add up to the prefix sums, and a ray's count is the
  number of its prefix sums below one half.
-/
module

public import proofs.«01_k».proof.Proof.CountIdeal
public import proofs.«01_k».proof.Proof.Prefix
public import Idealize.ShloMosaic.Lib.ValueIdxCore

@[expose] public section

noncomputable section

namespace Cert.Proof.Cumulative

open Cert.KernelIdeal Cert.KernelIdeal.Gen Cert.Proof.Region Cert.Proof.Count Cert.Proof.Prefix

open Idealize.ShloMosaic
open scoped BigOperators

/-- A number that is no infinity. -/
def IsReal (x : EReal) : Prop := ∃ r : ℝ, x = (r : EReal)

/-- A finite number less itself is zero. -/
theorem sub_self_of_finite {x : EReal} (h : IsReal x) : x - x = 0 := by
  obtain ⟨r, rfl⟩ := h
  rw [← EReal.coe_sub, sub_self]; rfl

/-- The triangle of ones: 1 where the row is at most the column. -/
abbrev tri : FVec Ideal S128x128 .f32 :=
  sitofp .f32 (extui 32 (cmpi .sle (iota .tc S128x128 32 [0] iota_S128x128_d0_w32) (iota .tc S128x128 32 [1] iota_S128x128_d1_w32)) natLt_1_32)

/-- The place (row, column) of the triangle. -/
def sq (i j : Fin 128) : S128x128.Idx := fun | 0 => i | 1 => j

/-- The place of sample `j` of ray `r` in a block that holds a ray per row. -/
def ray (r : Fin 4096) (j : Fin 128) : S4096x128.Idx := fun | 0 => r | 1 => j

/-- The triangle, entry by entry. -/
theorem tri_apply (j k : Fin 128) : tri (sq j k) = if j ≤ k then 1 else 0 := by
  have e : tri (sq j k) = ((((IntOp.cmpi .sle (BitVec.ofNat 32 j.val) (BitVec.ofNat 32 k.val)).setWidth 32).toInt : ℝ) : EReal) := by
    show ((((IntOp.cmpi .sle (BitVec.ofNat 32 (0 * 128 + j.val)) (BitVec.ofNat 32 (0 * 128 + k.val))).setWidth 32).toInt : ℝ) : EReal) = _
    simp only [Nat.zero_mul, Nat.zero_add]
  rw [e]
  have key : ∀ j k : Fin 128, ((IntOp.cmpi .sle (BitVec.ofNat 32 j.val) (BitVec.ofNat 32 k.val)).setWidth 32).toInt = if j ≤ k then 1 else 0 := by decide +kernel
  rw [key j k]
  by_cases h : j ≤ k
  · rw [if_pos h, if_pos h]; simp
  · rw [if_neg h, if_neg h]; simp

/-- A product with the triangle, at sample `k` of ray `r`: the prefix sum of the ray. -/
theorem product (v : FVec Ideal S4096x128 .f32) (k : Fin 128) (r : Fin 4096) :
    matmul dot_S128x128_S4096x128_S128x4096_0_1_1_0_n_n none tri v (constant S128x4096 .f32 0x00000000#32) (at2 k r)
      = prefixSum (fun j => v (ray r j)) k := by
  simp only [matmul]
  rw [Ideal.matmul_constant_zero_apply]
  rw [← Equiv.sum_comp (ValueIdx.contrEquiv1 dot_S128x128_S4096x128_S128x4096_0_1_1_0_n_n 128 rfl rfl).symm]
  unfold prefixSum
  refine Finset.sum_congr rfl fun j _ => ?_
  have hj := ValueIdx.contrEquiv1_symm_val dot_S128x128_S4096x128_S128x4096_0_1_1_0_n_n 128 rfl rfl j
  have el : dot_S128x128_S4096x128_S128x4096_0_1_1_0_n_n.lhsIdx (at2 k r) ((ValueIdx.contrEquiv1 dot_S128x128_S4096x128_S128x4096_0_1_1_0_n_n 128 rfl rfl).symm j) = sq j k := by
    funext a; apply Fin.ext
    match a with
    | 0 => exact hj
    | 1 => rfl
  have er : dot_S128x128_S4096x128_S128x4096_0_1_1_0_n_n.rhsIdx (at2 k r) ((ValueIdx.contrEquiv1 dot_S128x128_S4096x128_S128x4096_0_1_1_0_n_n 128 rfl rfl).symm j) = ray r j := by
    funext a; apply Fin.ext
    match a with
    | 0 => rfl
    | 1 => exact hj
  rw [el, er, tri_apply]
  by_cases h : j ≤ k
  · rw [if_pos h, if_pos h, one_mul]
  · rw [if_neg h, if_neg h, zero_mul]

/-- The sum of the three products, smallest part first. -/
abbrev three (lo mid hi : FVec Ideal S4096x128 .f32) : FVec Ideal S128x4096 .f32 :=
  addf (addf (matmul dot_S128x128_S4096x128_S128x4096_0_1_1_0_n_n none tri lo (constant S128x4096 .f32 0x00000000#32))
      (matmul dot_S128x128_S4096x128_S128x4096_0_1_1_0_n_n none tri mid (constant S128x4096 .f32 0x00000000#32)))
    (matmul dot_S128x128_S4096x128_S128x4096_0_1_1_0_n_n none tri hi (constant S128x4096 .f32 0x00000000#32))

/-- The prefix sums of zeros are zero. -/
theorem prefixSum_zero (k : Fin 128) : prefixSum (fun _ => 0) k = 0 := by
  unfold prefixSum; simp

/-- The kernel's comparison at sample `k` of ray `r`, of finite weights. -/
theorem pay3_apply (v : S4096x128.Idx → Ideal .f32) (hv : ∀ i, IsReal (v i)) (k : Fin 128) (r : Fin 4096) :
    k0_pay3 (F := Ideal) v (at2 k r) = Ideal.cmp .olt (prefixSum (fun j => v (ray r j)) k) oneHalf := by
  have e : k0_pay3 (F := Ideal) v = cmpf .olt (three (subf (subf (shapeCast S4096x128 v shapeCasts_S4096x128_S4096x128) (shapeCast S4096x128 v shapeCasts_S4096x128_S4096x128))
        (subf (shapeCast S4096x128 v shapeCasts_S4096x128_S4096x128) (shapeCast S4096x128 v shapeCasts_S4096x128_S4096x128)))
      (subf (shapeCast S4096x128 v shapeCasts_S4096x128_S4096x128) (shapeCast S4096x128 v shapeCasts_S4096x128_S4096x128)) (shapeCast S4096x128 v shapeCasts_S4096x128_S4096x128))
      (broadcast S128x4096 (Scalar.ofBits .f32 0x3F000000#32 : Ideal .f32)) := rfl
  have h0 : subf v v = fun _ => (0 : EReal) := funext fun i => sub_self_of_finite (hv i)
  have h00 : subf (F := Ideal) (s := S4096x128) (φ := .f32) (fun _ => (0 : EReal)) (fun _ => (0 : EReal)) = fun _ => (0 : EReal) :=
    funext fun _ => sub_self_of_finite ⟨0, rfl⟩
  rw [e, shapeCast_self, h0, h00]
  show Ideal.cmp .olt (_ + _ + _) oneHalf = _
  rw [product, product, prefixSum_zero, zero_add, zero_add]

/-- A ray's samples. -/
abbrev samples (f : S65536x128.Idx → Ideal .f32) (r : Fin 65536) : Fin 128 → EReal := fun j => f fun | 0 => r | 1 => j

/-- A block's count of ray `r`, of finite weights: its prefix sums below one half. -/
theorem count_pay3 (v : S4096x128.Idx → Ideal .f32) (hv : ∀ i, IsReal (v i)) (r : Fin 4096) :
    Count.count (k0_pay3 (F := Ideal) v) r = below fun j => v (ray r j) := by
  unfold Count.count below
  simp only [pay3_apply v hv]

/-- The kernel's count of ray `r`: its prefix sums below one half. -/
theorem cnt_eq (f : S65536x128.Idx → Ideal .f32) (hf : ∀ i, IsReal (f i)) (r : Fin 65536) : cnt f r = below (samples f r) := by
  have hr : r.val < 65536 := r.isLt
  unfold cnt pick
  by_cases h : r.val % 8192 < 4096
  · rw [dif_pos h]
    refine (count_pay3 (rows f (r.val / 8192) 0 (by omega) (by omega)) (fun i => hf _) _).trans ?_
    refine congrArg below (funext fun j => congrArg f (funext fun a => ?_))
    match a with
    | 0 => exact Fin.ext (show r.val / 8192 * 8192 + 0 * 4096 + r.val % 8192 = r.val by omega)
    | 1 => rfl
  · rw [dif_neg h]
    refine (count_pay3 (rows f (r.val / 8192) 1 (by omega) (by omega)) (fun i => hf _) _).trans ?_
    refine congrArg below (funext fun j => congrArg f (funext fun a => ?_))
    match a with
    | 0 => exact Fin.ext (show r.val / 8192 * 8192 + 1 * 4096 + (r.val % 8192 - 4096) = r.val by omega)
    | 1 => rfl

end Cert.Proof.Cumulative

end

end
-- ==== Proof.Reference.lean ====
/-
  WHAT THE REFERENCE COMPUTES, in exact numbers: its running sums are the prefix sums, its count of them below one half,
  held to 127, picks a sample of each ray, and the result is that sample's (start + end) / 2.
-/
module

public import proofs.«01_k».proof.Proof.Gen.ReferenceIdeal.Run
public import proofs.«01_k».proof.Proof.Prefix
public import Idealize.ShloMosaic.Lib.IndicatorCount
public import Idealize.ShloMosaic.Lib.ReduceAll
public import Idealize.ShloMosaic.Lib.Pipeline.Value
public import Idealize.ShloMosaic.PureOps.Reduce

@[expose] public section

noncomputable section

namespace Cert.Proof.Reference

open Cert.ReferenceIdeal Cert.ReferenceIdeal.Gen Cert.Proof.Prefix

open Idealize.ShloMosaic Idealize.ShloMosaic.TcCoe
open scoped BigOperators

/-- The place of sample `k` of ray `r`. -/
def sample (r : Fin 65536) (k : Fin 128) : S65536x128.Idx := fun | 0 => r | 1 => k

/-- The place of ray `r` in a list of one word per ray. -/
def word (r : Fin 65536) : S65536.Idx := fun | 0 => r

/-- The ray of a place in a column. -/
def rayOf (y : S65536x1.Idx) : Fin 65536 := ⟨(y 0).val, (y 0).isLt⟩

/-- The place of ray `r` in a column. -/
def col (r : Fin 65536) : S65536x1.Idx := fun | 0 => r | 1 => (0 : Fin 1)

/-- The place of ray `r`'s one component. -/
def spot (r : Fin 65536) : S65536x1x1.Idx := fun | 0 => r | 1 => (0 : Fin 1) | 2 => (0 : Fin 1)

/-- Every such place is its ray's. -/
theorem spot_surj (i : S65536x1x1.Idx) : i = spot ⟨(i 0).val, (i 0).isLt⟩ := by
  funext a
  match a with
  | 0 => rfl
  | 1 => exact Subsingleton.elim (α := Fin 1) _ _
  | 2 => exact Subsingleton.elim (α := Fin 1) _ _

/-- A window's shape: one ray by 128 samples. -/
abbrev window : Shape := ⟨2, ![1, 128]⟩

/-- A window's positions are its 128 samples. -/
def samplesOf : window.Idx ≃ Fin 128 where
  toFun i := i 1
  invFun w := fun | 0 => (0 : Fin 1) | 1 => w
  left_inv i := by
    funext a
    match a with
    | 0 => exact (Subsingleton.elim (α := Fin 1) _ _)
    | 1 => rfl
  right_inv _ := rfl

/-- The reference's running sums. -/
abbrev cum (f : FVec Ideal S65536x128 .f32) : FVec Ideal S65536x128 .f32 :=
  Host.reduceWindowAdd ![1, 128] ![1, 1] ![0, 127] ![0, 0] f (broadcastInDim S_ ![] bcast_S_S_ (constant S_ .f32 0x00000000#32))
    reduceWindows_S65536x128_S65536x128_w1s1p0_0_w128s1p127_0 h_S_

/-- The pattern of 0.0 is zero. -/
theorem zero_eq : (Ideal.ofBits .f32 0x00000000#32 : EReal) = 0 := by simp [Ideal.ofBits, Ideal.ieee]

/-- What the window that ends at sample `k` of ray `r` holds at a position: the weight there, or zero before the ray. -/
def held (f : FVec Ideal S65536x128 .f32) (r : Fin 65536) (k : Fin 128) (i : window.Idx) : EReal :=
  if hin : ∀ a : Fin 2, (![0, 127] : Fin 2 → ℕ) a ≤ (sample r k a).val * (![1, 1] : Fin 2 → ℕ) a + (i a).val
      ∧ (sample r k a).val * (![1, 1] : Fin 2 → ℕ) a + (i a).val - (![0, 127] : Fin 2 → ℕ) a < S65536x128.size a
  then f (fun a => ⟨(sample r k a).val * (![1, 1] : Fin 2 → ℕ) a + (i a).val - (![0, 127] : Fin 2 → ℕ) a, (hin a).2⟩) else 0

/-- The running sum at sample `k` of ray `r` is the prefix sum of the ray's weights. -/
theorem cum_apply (f : FVec Ideal S65536x128 .f32) (r : Fin 65536) (k : Fin 128) :
    cum f (sample r k) = prefixSum (fun j => f (sample r j)) k := by
  show Host.reduceWindow (s := S65536x128) (t := S65536x128) (· + ·) ![1, 128] ![1, 1] ![0, 127] ![0, 0] f
    (fun _ : (⟨0, ![]⟩ : Shape).Idx => (Ideal.ofBits .f32 0x00000000#32 : EReal)) reduceWindows_S65536x128_S65536x128_w1s1p0_0_w128s1p127_0 (by decide) (sample r k) = _
  unfold Host.reduceWindow
  refine (foldl_finRange _ _ _).trans ?_
  rw [zero_eq, zero_add]
  refine Eq.trans (b := ∑ n : Fin window.numel, held f r k (window.rowMajor.symm n)) (Finset.sum_congr rfl fun n _ => ?_) ?_
  · unfold held
    by_cases hin : ∀ a : Fin 2, (![0, 127] : Fin 2 → ℕ) a ≤ (sample r k a).val * (![1, 1] : Fin 2 → ℕ) a + (window.rowMajor.symm n a).val
      ∧ (sample r k a).val * (![1, 1] : Fin 2 → ℕ) a + (window.rowMajor.symm n a).val - (![0, 127] : Fin 2 → ℕ) a < S65536x128.size a
    · rw [dif_pos hin]; exact dif_pos hin
    · rw [dif_neg hin]; exact dif_neg hin
  refine ((Equiv.sum_comp window.rowMajor.symm (held f r k)).trans (Equiv.sum_comp samplesOf.symm (held f r k)).symm).trans ?_
  refine window_sum _ k _ (fun w h => ?_) fun w h => ?_
  · have hw : w.val < 128 := w.isLt
    have hk : k.val < 128 := k.isLt
    unfold held
    rw [dif_pos]
    · refine congrArg f (funext fun a => ?_)
      match a with
      | 0 => exact Fin.ext (show r.val * 1 + 0 - 0 = r.val by omega)
      | 1 => exact Fin.ext (show k.val * 1 + w.val - 127 = k.val + w.val - 127 by omega)
    · intro a
      match a with
      | 0 => exact ⟨Nat.zero_le _, (show r.val * 1 + 0 - 0 < 65536 by omega)⟩
      | 1 => exact ⟨(show 127 ≤ k.val * 1 + w.val by omega), (show k.val * 1 + w.val - 127 < 128 by omega)⟩
  · refine dif_neg fun hin => ?_
    have : 127 ≤ k.val * 1 + w.val := (hin 1).1
    omega

/-- The reference's number of running sums below one half, a word per ray. -/
abbrev counts (f : FVec Ideal S65536x128 .f32) : IVec S65536 32 :=
  Host.reduce IntOp.addi (extui 32 (cmpf .olt (cum f) (broadcastInDim S65536x128 ![] bcast_S_S65536x128 (constant S_ .f32 0x3F000000#32))) natLt_1_32)
    (constantI S_ 32 0#32) reducesTo_S65536x128_S65536_d1 h_S_

/-- Summing over the samples leaves a word per ray. -/
theorem reduces_d1 : S65536x128.Reduces [1] S65536 := by decide

/-- The reference's count of ray `r`: its prefix sums below one half. -/
theorem counts_apply (f : FVec Ideal S65536x128 .f32) (r : Fin 65536) :
    counts f (word r) = BitVec.ofNat 32 (below fun k => f (sample r k)) := by
  rw [counts, Host.reduce_eq_fold_single IntOp.addi _ _ _ reduces_d1]
  refine Eq.trans ?_ (IndicatorCount.fold_addi_setWidth_eq_card (fun k : Fin 128 => Ideal.cmp .olt (prefixSum (fun i => f (sample r i)) k) oneHalf) Finset.univ)
  refine congrArg (fun g => Finset.fold IntOp.addi (0#32) g (Finset.univ : Finset (Fin 128))) (funext fun k => ?_)
  have e : reduces_d1.lift (word r) k = sample r k := by
    funext a; apply Fin.ext
    match a with
    | 0 => rfl
    | 1 => rfl
  exact congrArg (fun x => (Ideal.cmp .olt x oneHalf).setWidth 32) ((congrArg (cum f) e).trans (cum_apply f r k))

/-- The counts held between 0 and 127. -/
abbrev clipped (n : IVec S65536 32) : IVec S65536x1 32 :=
  minsi (broadcastInDim S65536x1 ![] bcast_S_S65536x1 (id (constantI S_ 32 127#32)))
    (maxsi (broadcastInDim S65536x1 ![] bcast_S_S65536x1 (id (constantI S_ 32 0#32))) (broadcastInDim S65536x1 ![0] bcast_S65536_S65536x1_0 n))

/-- The places to take: a negative one would count from the end. -/
abbrev places (n : IVec S65536 32) : IVec S65536x1x1 32 :=
  shapeCast S65536x1x1 (select (cmpi .slt (clipped n) (broadcastInDim S65536x1 ![] bcast_S_S65536x1 (constantI S_ 32 0#32)))
    (addi (clipped n) (broadcastInDim S65536x1 ![] bcast_S_S65536x1 (constantI S_ 32 128#32))) (clipped n)) shapeCasts_S65536x1_S65536x1x1

/-- A count's word: held to 127 it is not negative. -/
theorem word_eq : ∀ b : Fin 129, Scalar.select (IntOp.cmpi .slt (IntOp.minsi 127#32 (IntOp.maxsi 0#32 (BitVec.ofNat 32 b.val))) 0#32)
    (IntOp.addi (IntOp.minsi 127#32 (IntOp.maxsi 0#32 (BitVec.ofNat 32 b.val))) 128#32) (IntOp.minsi 127#32 (IntOp.maxsi 0#32 (BitVec.ofNat 32 b.val)))
      = BitVec.ofNat 32 (min b.val 127) := by decide +kernel

/-- A count's word is in range, and is its number. -/
theorem word_range : ∀ b : Fin 129, IntOp.andi (IntOp.cmpi .sge (BitVec.ofNat 32 (min b.val 127)) 0#32) (IntOp.cmpi .sle (BitVec.ofNat 32 (min b.val 127)) 127#32) = 1#1
    ∧ min (BitVec.ofNat 32 (min b.val 127)).toInt.toNat 127 = min b.val 127 := by decide +kernel

/-- The place to take of ray `r`: its count, held to 127. -/
theorem places_apply (n : IVec S65536 32) (b : Fin 65536 → Fin 129) (hn : ∀ r, n (word r) = BitVec.ofNat 32 (b r).val) (r : Fin 65536) :
    places n (spot r) = BitVec.ofNat 32 (min (b r).val 127) := by
  rw [places, shapeCast_apply _ _ (spot r) (col r) (by
    rw [Shape.rowMajor_val_two, Shape.rowMajor_val_three]
    show r.val * 1 + 0 = (r.val * 1 + 0) * 1 + 0
    omega)]
  have hb : broadcastInDim S65536x1 ![0] bcast_S65536_S65536x1_0 n (col r) = BitVec.ofNat 32 (b r).val := by
    rw [broadcastInDim_apply _ _ n _ (word r) (fun a => by match a with | 0 => rfl)]
    exact hn r
  have := word_eq (b r)
  rw [← hb] at this
  exact this

/-- Whether every component of a place is in range. -/
abbrev inside (i : IVec S65536x1x1 32) : IVec S65536x1 1 :=
  Host.reduce IntOp.andi (andi (cmpi .sge i (broadcastInDim S65536x1x1 ![] bcast_S_S65536x1x1 (constantI S_ 32 0#32)))
      (cmpi .sle i (broadcastInDim S65536x1x1 ![0, 1, 2] bcast_S1x1x1_S65536x1x1_0_1_2 (broadcastInDim S1x1x1 ![2] bcast_S1_S1x1x1_2 (constantI S1 32 127#32)))))
    (constantI S_ 1 1#1) reducesTo_S65536x1x1_S65536x1_d2 h_S_

/-- Every place is in range. -/
theorem inside_apply (n : IVec S65536 32) (b : Fin 65536 → Fin 129) (hn : ∀ r, n (word r) = BitVec.ofNat 32 (b r).val) (y : S65536x1.Idx) :
    inside (places n) y = 1#1 :=
  Host.reduce_andi_one _ _ _ _ y rfl fun i => by
    show IntOp.andi (IntOp.cmpi .sge (places n i) 0#32) (IntOp.cmpi .sle (places n i) 127#32) = 1#1
    rw [spot_surj i, places_apply n b hn]
    exact (word_range _).1

/-- The gather at ray `y`: the sample that the ray's place names, held to the last. -/
theorem gather_apply {α : Type} (x : S65536x128.Idx → α) (idx : IVec S65536x1x1 32) (y : S65536x1.Idx) :
    Host.gather gather_S65536x128_S65536x1x1_S65536x1_n_1_0_0_1_2_11 x idx y
      = x (sample (rayOf y) ⟨min (idx (spot (rayOf y))).toInt.toNat 127, by omega⟩) := by
  unfold Host.gather
  refine congrArg x (funext fun a => Fin.ext ?_)
  show GatherDims.start gather_S65536x128_S65536x1x1_S65536x1_n_1_0_0_1_2_11 y idx a + GatherDims.batchCoord gather_S65536x128_S65536x1x1_S65536x1_n_1_0_0_1_2_11 y a
      + GatherDims.offCoord gather_S65536x128_S65536x1x1_S65536x1_n_1_0_0_1_2_11 y a = _
  have h01 : a = 0 ∨ a = 1 := by
    match a with
    | 0 => exact Or.inl rfl
    | 1 => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S65536x128_S65536x1x1_S65536x1_n_1_0_0_1_2_11.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    show GatherDims.start gather_S65536x128_S65536x1x1_S65536x1_n_1_0_0_1_2_11 y idx 1 = _
    unfold GatherDims.start
    rw [dif_pos (show (1 : Fin 2) ∈ gather_S65536x128_S65536x1x1_S65536x1_n_1_0_0_1_2_11.startIndexMap from List.mem_singleton.mpr rfl)]
    have hsi : gather_S65536x128_S65536x1x1_S65536x1_n_1_0_0_1_2_11.siIdx y
        ⟨List.idxOf (1 : Fin 2) gather_S65536x128_S65536x1x1_S65536x1_n_1_0_0_1_2_11.startIndexMap, List.idxOf_lt_length_iff.2 (List.mem_singleton.mpr rfl)⟩
          = spot (rayOf y) := by
      funext c; apply Fin.ext
      match c with
      | 0 => rfl
      | 1 => exact congrArg Fin.val (Subsingleton.elim (α := Fin 1) (y 1) 0)
      | 2 => rfl
    rw [hsi]
    rfl

/-- The reference's result of weights `f` and middles `x`. -/
abbrev taken (f x : FVec Ideal S65536x128 .f32) : FVec Ideal S65536x1 .f32 :=
  select (inside (places (counts f))) (Host.gather gather_S65536x128_S65536x1x1_S65536x1_n_1_0_0_1_2_11 x (places (counts f)))
    (broadcastInDim S65536x1 ![] bcast_S_S65536x1 (constant S_ .f32 0x7FC00000#32))

/-- The result at ray `y`: the middle of the sample that the count picks. -/
theorem taken_apply (f x : FVec Ideal S65536x128 .f32) (y : S65536x1.Idx) :
    taken f x y = x (sample (rayOf y) ⟨min (below fun k => f (sample (rayOf y) k)) 127, by omega⟩) := by
  have hn : ∀ r, counts f (word r) = BitVec.ofNat 32 ((⟨below fun k => f (sample r k), Nat.lt_succ_of_le (below_le _)⟩ : Fin 129)).val := counts_apply f
  have hp := places_apply (counts f) _ hn (rayOf y)
  show Scalar.select (inside (places (counts f)) y) (Host.gather gather_S65536x128_S65536x1x1_S65536x1_n_1_0_0_1_2_11 x (places (counts f)) y) _ = _
  rw [inside_apply _ _ hn, gather_apply]
  refine (if_pos rfl).trans (congrArg (fun c => x (sample (rayOf y) c)) (Fin.ext ?_))
  show min (places (counts f) (spot (rayOf y))).toInt.toNat 127 = _
  rw [hp]
  exact (word_range _).2

set_option maxRecDepth 8192 in
/-- The reference's result, out of its arguments. -/
theorem result_eq (m : (ℓ : Loc nD τ sig) → Buf (Elt Ideal) ℓ) (c : Dev nD) :
    Value.res_main_v12 m c = taken (shapeCast S65536x128 (m ((c.tc : Thread nD τ).loc main_arg0)) shapeCasts_S65536x128x1_S65536x128)
      (shapeCast S65536x128 (Host.divf (addf (m ((c.tc : Thread nD τ).loc main_arg1)) (m ((c.tc : Thread nD τ).loc main_arg2)))
        (broadcastInDim S65536x128x1 ![] bcast_S_S65536x128x1 (constant S_ .f32 0x40000000#32))) shapeCasts_S65536x128x1_S65536x128) := by
  unfold Value.res_main_v12; rfl

end Cert.Proof.Reference

end

end
-- ==== Proof.Equation.lean ====
/-
  THE EQUATION: of finite weights, the kernel's result and the reference's are one array. Both pick a ray's sample by the
  number of its prefix sums below one half, held to 127; the kernel reads that sample's start and end out of flat tables and
  multiplies their sum by one half, the reference divides it by two.
-/
module

public import proofs.«01_k».proof.Defs
public import proofs.«01_k».proof.Proof.Gen.Pre_weights_finite
public import proofs.«01_k».proof.Proof.Cumulative
public import proofs.«01_k».proof.Proof.Reference

@[expose] public section

noncomputable section

namespace Cert.Proof.Equation

open Cert.Proof.Prefix Cert.Proof.Cumulative

open Idealize.ShloMosaic Idealize.ShloMosaic.TcCoe Idealize.SL.Sem

/-- The place of sample `k` of ray `r` in an argument. -/
def arg (r : Fin 65536) (k : Fin 128) : Cert.KernelIdeal.S65536x128x1.Idx := fun | 0 => r | 1 => k | 2 => (0 : Fin 1)

/-- The sample that both programs take of a ray: its count of prefix sums below one half, held to 127. -/
def chosen (w : Cert.KernelIdeal.S65536x128x1.Idx → EReal) (r : Fin 65536) : Fin 128 := ⟨min (below fun k => w (arg r k)) 127, by omega⟩

/-- The start and the end of ray `r`'s chosen sample, added. -/
def both (w a b : Cert.KernelIdeal.S65536x128x1.Idx → EReal) (r : Fin 65536) : EReal := a (arg r (chosen w r)) + b (arg r (chosen w r))

/-- The pattern of 0.5 is that number. -/
theorem half_eq : (Ideal.ofBits .f32 0x3F000000#32 : EReal) = ((1 / 2 : ℝ) : EReal) := by
  simp [Ideal.ofBits, Ideal.ieee, -EReal.coe_mul]; norm_num

/-- The pattern of 2.0 is that number. -/
theorem two_eq : (Ideal.ofBits .f32 0x40000000#32 : EReal) = ((2 : ℝ) : EReal) := by
  simp [Ideal.ofBits, Ideal.ieee, -EReal.coe_mul]; norm_num

section KernelSide

open Cert.KernelIdeal Cert.KernelIdeal.Gen

variable (m : (ℓ : Loc nD τ sig) → Buf (Elt Ideal) ℓ) (d : Dev nD)

/-- The flat weights, out of the kernel's first argument. -/
theorem weights_apply (i : S65536x128.Idx) :
    Main.weights m d i = (m (d, Proc.devRef .tc main_arg0) : S65536x128x1.Idx → Ideal .f32) (arg ⟨(i 0).val, (i 0).isLt⟩ ⟨(i 1).val, (i 1).isLt⟩) :=
  shapeCast_apply _ _ i (arg ⟨(i 0).val, (i 0).isLt⟩ ⟨(i 1).val, (i 1).isLt⟩ : S65536x128x1.Idx) (by
    rw [Shape.rowMajor_val_two, Shape.rowMajor_val_three]
    show ((i 0).val * 128 + (i 1).val) * 1 + 0 = (i 0).val * 128 + (i 1).val
    omega)

/-- A flat table at the word of ray `r` and sample `k`. -/
theorem table_apply (f : S65536x128x1.Idx → Ideal .f32) (v : BitVec 32) (r : Fin 65536) (k : Fin 128) (hv : v.toNat = r.val * 128 + k.val) :
    shapeCast S8388608 f shapeCasts_S65536x128x1_S8388608 (Setup.at8 v) = f (arg r k) :=
  shapeCast_apply f _ (Setup.at8 v) (arg r k : S65536x128x1.Idx) (by
    have hr := r.isLt
    have hk := k.isLt
    rw [Shape.rowMajor_val_one, Shape.rowMajor_val_three]
    show (r.val * 128 + k.val) * 1 + 0 = v.toNat % 8388608
    rw [hv]; omega)

/-- The place of ray `r` in a list of one word per ray. -/
def one (r : Fin 65536) : S65536.Idx := fun | 0 => r

/-- The list's word of ray `r` is the index computed for that ray. -/
theorem list_word (r : Fin 65536) : Main.list m d (Tile.word r) = Region.indices (Main.weights m d) (one r) :=
  shapeCast_apply _ _ (Tile.word r) (one r) (by
    have hr := r.isLt
    rw [Shape.rowMajor_val_one, Shape.rowMajor_val_three]
    show r.val = (r.val / 2048 * 16 + r.val % 2048 / 128) * 128 + r.val % 128
    omega)

/-- The kernel's result at ray `r`, of finite weights: half the sum of the chosen sample's start and end. -/
theorem result_apply (hf : ∀ i, IsReal ((m (d, Proc.devRef .tc main_arg0) : S65536x128x1.Idx → Ideal .f32) i)) (r : Fin 65536) :
    Main.result m d (fun | 0 => r | 1 => (0 : Fin 1) : S65536x1.Idx)
      = both (m (d, Proc.devRef .tc main_arg0)) (m (d, Proc.devRef .tc main_arg1)) (m (d, Proc.devRef .tc main_arg2)) r * Ideal.ofBits .f32 0x3F000000#32 := by
  have hv : BitVec.toNat (w := 32) (Main.list m d (Tile.word r)) = r.val * 128 + (chosen (m (d, Proc.devRef .tc main_arg0)) r).val := by
    rw [list_word, Count.indices_toNat Count.ideal, cnt_eq _ fun i => by rw [weights_apply]; exact hf _]
    have : samples (Main.weights m d) ⟨(one r 0).val, (one r 0).isLt⟩ = fun k => (m (d, Proc.devRef .tc main_arg0) : S65536x128x1.Idx → Ideal .f32) (arg r k) :=
      funext fun k => weights_apply m d _
    rw [this]; rfl
  unfold Main.result
  rw [shapeCast_apply _ _ _ (one r) (by
    rw [Shape.rowMajor_val_one, Shape.rowMajor_val_two]
    show r.val = r.val * 1 + 0
    omega)]
  show Loops.half (Main.starts m d (Setup.at8 (Main.list m d (Tile.word r)))) (Main.ends m d (Setup.at8 (Main.list m d (Tile.word r)))) = _
  unfold Main.starts Main.ends
  rw [table_apply _ _ r _ hv, table_apply _ _ r _ hv]
  rfl

end KernelSide

section ReferenceSide

open Cert.ReferenceIdeal Cert.ReferenceIdeal.Gen

/-- An argument with its last axis dropped. -/
theorem flat_apply (f : S65536x128x1.Idx → Ideal .f32) (r : Fin 65536) (k : Fin 128) :
    shapeCast S65536x128 f shapeCasts_S65536x128x1_S65536x128 (Reference.sample r k) = f (arg r k) :=
  shapeCast_apply f _ (Reference.sample r k) (arg r k : S65536x128x1.Idx) (by
    rw [Shape.rowMajor_val_two, Shape.rowMajor_val_three]
    show (r.val * 128 + k.val) * 1 + 0 = r.val * 128 + k.val
    omega)

/-- The reference's result at ray `r`: the sum of the chosen sample's start and end, over two. -/
theorem reference_apply (m : (ℓ : Loc nD τ sig) → Buf (Elt Ideal) ℓ) (d : Dev nD) (r : Fin 65536) :
    (Value.res_main_v12 m d : S65536x1.Idx → EReal) (Reference.col r)
      = Ideal.div (both (m ((d.tc : Thread nD τ).loc main_arg0)) (m ((d.tc : Thread nD τ).loc main_arg1)) (m ((d.tc : Thread nD τ).loc main_arg2)) r)
        (Ideal.ofBits .f32 0x40000000#32) := by
  rw [Reference.result_eq, Reference.taken_apply]
  have e : Reference.rayOf (Reference.col r) = r := rfl
  simp only [e, flat_apply]
  rfl

end ReferenceSide

/-- Half of a sum is the sum over two. -/
theorem middle_eq (x : EReal) : x * Ideal.ofBits .f32 0x3F000000#32 = Ideal.div x (Ideal.ofBits .f32 0x40000000#32) := by
  rw [half_eq, two_eq, Ideal.div_coe (by norm_num)]

/-- A number whose size is below infinity is none. -/
theorem isReal_of (x : EReal) (h : BitVec.ofBool (decide (max x (-x) < (Ideal.ofBits .f32 0x7F800000#32 : EReal))) = 1#1) : IsReal x := by
  have ht : (Ideal.ofBits .f32 0x7F800000#32 : EReal) = ⊤ := by simp [Ideal.ofBits, Ideal.ieee]
  rw [ht] at h
  induction x using EReal.rec with
  | bot => simp at h
  | top => simp at h
  | coe a => exact ⟨a, rfl⟩

/-- What the precondition says: no weight is an infinity. -/
theorem finite (m : (ℓ : Loc Cert.KernelIdeal.nD Cert.KernelIdeal.τ Cert.KernelIdeal.sig) → Buf (Elt Ideal) ℓ)
    (h : Cert.Pre_KernelIdeal_weights_finite m) (d : Dev Cert.KernelIdeal.nD) (i : Cert.KernelIdeal.S65536x128x1.Idx) :
    IsReal ((m (d, Proc.devRef .tc Cert.KernelIdeal.main_arg0) : Cert.KernelIdeal.S65536x128x1.Idx → Ideal .f32) i) := by
  haveI : Subsingleton Cert.Pre_weights_finite.S_.Idx := ⟨fun a b => funext fun k => k.elim0⟩
  have h1 := Host.reduce_andi_all _ _ _ _ (fun k => k.elim0) (congrFun (h d) (fun k => k.elim0)) i
  exact isReal_of _ h1

/-- A column's place is its ray's. -/
theorem col_surj (y : Cert.KernelIdeal.S65536x1.Idx) : y = (fun | 0 => (⟨(y 0).val, (y 0).isLt⟩ : Fin 65536) | 1 => (0 : Fin 1) : Cert.KernelIdeal.S65536x1.Idx) := by
  funext a
  match a with
  | 0 => rfl
  | 1 => exact Subsingleton.elim (α := Fin 1) _ _

/-- From memories that agree on the arguments, of finite weights, the two results are one array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_weights_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_main_v12 m' c : Cert.KernelIdeal.S65536x1.Idx → EReal) = Main.result m c := by
  funext y
  rw [col_surj y]
  refine (reference_apply m' c _).trans ?_
  rw [h0, h1, h2, ← middle_eq]
  exact (result_apply m c (finite m h c) _).symm

/-- THE VALUE: from memories that agree on the arguments, of finite weights, both programs run to an end with equal results. -/
theorem algebraic : Cert.algebraic_KernelIdeal_ReferenceIdeal_pre_weights_finite := fun m ρ m' ρ' h hag =>
  ⟨Main.result m,
    (θ_run Cert.KernelIdeal.defs _ _).mono (fun _ h => h.1) (Main.run_main (F := Ideal) m ρ (Count.list_lt m Count.ideal)),
    (θ_run Cert.ReferenceIdeal.defs _ _).mono
      (fun _ hr c => ⟨(hr c).1.trans (results_eq m m' h c (hag c).1 (hag c).2.1 (hag c).2.2), (hr c).2⟩)
      (Cert.ReferenceIdeal.Value.run (F := Ideal) m' ρ')⟩

end Cert.Proof.Equation

end

end
-- ==== Proof.lean ====
/-
  THE CERTIFICATE'S CLAIM, assembled from the modules under Proof/: the frames of the kernel, of its exact reading and of
  the reference's (Frames.lean), that the exact reading of the kernel is the kernel with nothing rewritten, and that of
  finite weights the kernel's result and the reference's are equal (Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_weights_finite
public import proofs.«01_k».proof.Proof.Frames
public import proofs.«01_k».proof.Proof.Equation

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Pre_weights_finite.Gen.facts,
    Frames.kernel, Frames.kernelIdeal, Frames.kernelIdeal_finite, Frames.referenceIdeal, Frames.referenceIdeal_finite, trivial, Equation.algebraic⟩

end Cert.Proof

end
